-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x8192 : Shape := ⟨3, ![2, 6144, 8192]⟩
abbrev S2x6144 : Shape := ⟨2, ![2, 6144]⟩
abbrev S8192 : Shape := ⟨1, ![8192]⟩
abbrev S8192x10240 : Shape := ⟨2, ![8192, 10240]⟩
abbrev S10240 : Shape := ⟨1, ![10240]⟩
abbrev S2x6144x10240 : Shape := ⟨3, ![2, 6144, 10240]⟩
abbrev S12288x8192 : Shape := ⟨2, ![12288, 8192]⟩
abbrev S12288x10240 : Shape := ⟨2, ![12288, 10240]⟩
abbrev S12288x1 : Shape := ⟨2, ![12288, 1]⟩
abbrev S1x8192 : Shape := ⟨2, ![1, 8192]⟩
abbrev S1x10240 : Shape := ⟨2, ![1, 10240]⟩
abbrev S8192x12288 : Shape := ⟨2, ![8192, 12288]⟩
abbrev S256x8192 : Shape := ⟨2, ![256, 8192]⟩
abbrev S256x1 : Shape := ⟨2, ![256, 1]⟩
abbrev S512x10240 : Shape := ⟨2, ![512, 10240]⟩
abbrev S256x10240 : Shape := ⟨2, ![256, 10240]⟩
abbrev S8192x256 : Shape := ⟨2, ![8192, 256]⟩
abbrev S256x512 : Shape := ⟨2, ![256, 512]⟩
abbrev S512x1024 : Shape := ⟨2, ![512, 1024]⟩
abbrev S1x1024 : Shape := ⟨2, ![1, 1024]⟩
abbrev S256x1024 : Shape := ⟨2, ![256, 1024]⟩
abbrev S1x512 : Shape := ⟨2, ![1, 512]⟩
abbrev S512x256 : Shape := ⟨2, ![512, 256]⟩
abbrev S512 : Shape := ⟨1, ![512]⟩
abbrev S256 : Shape := ⟨1, ![256]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 19
  | .vmem => 24
  | .smem => 0
  | _ => 0

abbrev bufTy : (tb : Table) → Fin (tcTables nBuf tb) → BufTy
  | .hbm, ⟨0, _⟩ => ⟨S2x6144x8192, .fp8e4m3⟩
  | .hbm, ⟨1, _⟩ => ⟨S2x6144, .f32⟩
  | .hbm, ⟨2, _⟩ => ⟨S2x6144, .f32⟩
  | .hbm, ⟨3, _⟩ => ⟨S8192, .f32⟩
  | .hbm, ⟨4, _⟩ => ⟨S8192x10240, .fp8e4m3⟩
  | .hbm, ⟨5, _⟩ => ⟨S10240, .f32⟩
  | .hbm, ⟨6, _⟩ => ⟨S2x6144x10240, .bf16⟩
  | .hbm, ⟨7, _⟩ => ⟨S12288x8192, .fp8e4m3⟩
  | .hbm, ⟨8, _⟩ => ⟨S12288x10240, .bf16⟩
  | .hbm, ⟨9, _⟩ => ⟨S12288x1, .f32⟩
  | .hbm, ⟨10, _⟩ => ⟨S12288x1, .f32⟩
  | .hbm, ⟨11, _⟩ => ⟨S1x8192, .f32⟩
  | .hbm, ⟨12, _⟩ => ⟨S1x10240, .f32⟩
  | .hbm, ⟨13, _⟩ => ⟨S12288x8192, .bf16⟩
  | .hbm, ⟨14, _⟩ => ⟨S8192x12288, .bf16⟩
  | .hbm, ⟨15, _⟩ => ⟨S1x8192, .f32⟩
  | .hbm, ⟨16, _⟩ => ⟨S8192x10240, .f32⟩
  | .hbm, ⟨17, _⟩ => ⟨S2x6144x8192, .bf16⟩
  | .hbm, ⟨18, _⟩ => ⟨S8192, .f32⟩
  | .local _ .vmem, ⟨0, _⟩ => ⟨S256x8192, .fp8e4m3⟩
  | .local _ .vmem, ⟨1, _⟩ => ⟨S256x8192, .fp8e4m3⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S1x8192, .f32⟩
  | .local _ .vmem, ⟨7, _⟩ => ⟨S512x10240, .fp8e4m3⟩
  | .local _ .vmem, ⟨8, _⟩ => ⟨S512x10240, .fp8e4m3⟩
  | .local _ .vmem, ⟨9, _⟩ => ⟨S1x10240, .f32⟩
  | .local _ .vmem, ⟨10, _⟩ => ⟨S256x10240, .bf16⟩
  | .local _ .vmem, ⟨11, _⟩ => ⟨S256x10240, .bf16⟩
  | .local _ .vmem, ⟨12, _⟩ => ⟨S256x8192, .bf16⟩
  | .local _ .vmem, ⟨13, _⟩ => ⟨S256x8192, .bf16⟩
  | .local _ .vmem, ⟨14, _⟩ => ⟨S8192x256, .bf16⟩
  | .local _ .vmem, ⟨15, _⟩ => ⟨S8192x256, .bf16⟩
  | .local _ .vmem, ⟨16, _⟩ => ⟨S1x8192, .f32⟩
  | .local _ .vmem, ⟨17, _⟩ => ⟨S256x8192, .f32⟩
  | .local _ .vmem, ⟨18, _⟩ => ⟨S1024x4096, .bf16⟩
  | .local _ .vmem, ⟨19, _⟩ => ⟨S1024x4096, .bf16⟩
  | .local _ .vmem, ⟨20, _⟩ => ⟨S4096x1024, .bf16⟩
  | .local _ .vmem, ⟨21, _⟩ => ⟨S4096x1024, .bf16⟩
  | .local _ .vmem, ⟨22, _⟩ => ⟨S1024x1024, .f32⟩
  | .local _ .vmem, ⟨23, _⟩ => ⟨S1024x1024, .f32⟩
  | _, _ => ⟨S2x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22

abbrev nD : Nat := 1
abbrev τ : Topo := Topo.v7x

variable {F : FTy → Type} [FloatOps F]

abbrev grid0 : Pipeline.Grid := ⟨2, ![48, 16], ![false, false]⟩

def k0_mult1 (i : grid0.Coords) : BitVec 32 :=
  let arg1 : BitVec 32 := BitVec.ofNat 32 (i 1).val
  let c512_i32 : BitVec 32 := 512#32
  let v111 : BitVec 32 := Scalar.muli arg1 c512_i32
  v111
def k0_off1 (i : grid0.Coords) : Fin 2 → Nat :=
  let c0_60 : Index := 0#32
  let arg1 : BitVec 32 := BitVec.ofNat 32 (i 1).val
  let c512_i32 : BitVec 32 := 512#32
  let v111 : BitVec 32 := Scalar.muli arg1 c512_i32
  let v112 : BitVec 32 := v111
  let v113 : Index := Scalar.indexCast v112
  ![0, v113.toNat]
def k0_cond1 (i : grid0.Coords) : BitVec 1 :=
  let arg1 : BitVec 32 := BitVec.ofNat 32 (i 1).val
  let c15_i32 : BitVec 32 := 15#32
  let v117 : BitVec 1 := Scalar.cmpi .eq arg1 c15_i32
  let v118 : BitVec 32 := Scalar.extui v117
  let c0_i32 : BitVec 32 := 0#32
  let v119 : BitVec 1 := Scalar.cmpi .ne v118 c0_i32
  v119

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x10240 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x10240 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨3, ![8, 10, 3], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== ReferenceIdeal.lean ====
abbrev S2x6144x8192 : Shape := ⟨3, ![2, 6144, 8192]⟩
abbrev S2x6144 : Shape := ⟨2, ![2, 6144]⟩
abbrev S8192 : Shape := ⟨1, ![8192]⟩
abbrev S8192x10240 : Shape := ⟨2, ![8192, 10240]⟩
abbrev S10240 : Shape := ⟨1, ![10240]⟩
abbrev S2x6144x10240 : Shape := ⟨3, ![2, 6144, 10240]⟩
abbrev S12288x8192 : Shape := ⟨2, ![12288, 8192]⟩
abbrev S12288x1 : Shape := ⟨2, ![12288, 1]⟩
abbrev S1x8192 : Shape := ⟨2, ![1, 8192]⟩
abbrev S1x10240 : Shape := ⟨2, ![1, 10240]⟩
abbrev S12288x10240 : Shape := ⟨2, ![12288, 10240]⟩
abbrev S12288 : Shape := ⟨1, ![12288]⟩

abbrev nBuf : Space → Nat
  | .hbm => 18
  | .vmem => 10
  | .smem => 0
  | _ => 0

abbrev bufTy : (tb : Table) → Fin (tcTables nBuf tb) → BufTy
  | .hbm, ⟨0, _⟩ => ⟨S2x6144x8192, .fp8e4m3⟩
  | .hbm, ⟨1, _⟩ => ⟨S2x6144, .f32⟩
  | .hbm, ⟨2, _⟩ => ⟨S2x6144, .f32⟩
  | .hbm, ⟨3, _⟩ => ⟨S8192, .f32⟩
  | .hbm, ⟨4, _⟩ => ⟨S8192x10240, .fp8e4m3⟩
  | .hbm, ⟨5, _⟩ => ⟨S10240, .f32⟩
  | .hbm, ⟨6, _⟩ => ⟨S2x6144x10240, .bf16⟩
  | .hbm, ⟨7, _⟩ => ⟨S12288x8192, .fp8e4m3⟩
  | .hbm, ⟨8, _⟩ => ⟨S12288x1, .f32⟩
  | .hbm, ⟨9, _⟩ => ⟨S12288x1, .f32⟩
  | .hbm, ⟨10, _⟩ => ⟨S1x8192, .f32⟩
  | .hbm, ⟨11, _⟩ => ⟨S1x10240, .f32⟩
  | .hbm, ⟨12, _⟩ => ⟨S12288x10240, .bf16⟩
  | .hbm, ⟨13, _⟩ => ⟨S12288x8192, .bf16⟩
  | .hbm, ⟨14, _⟩ => ⟨S8192x10240, .f32⟩
  | .hbm, ⟨15, _⟩ => ⟨S1x8192, .f32⟩
  | .hbm, ⟨16, _⟩ => ⟨S2x6144x8192, .bf16⟩
  | .hbm, ⟨17, _⟩ => ⟨S8192, .f32⟩
  | .local _ .vmem, ⟨0, _⟩ => ⟨S12288x8192, .fp8e4m3⟩
  | .local _ .vmem, ⟨1, _⟩ => ⟨S12288x1, .f32⟩
  | .local _ .vmem, ⟨2, _⟩ => ⟨S12288x1, .f32⟩
  | .local _ .vmem, ⟨3, _⟩ => ⟨S1x8192, .f32⟩
  | .local _ .vmem, ⟨4, _⟩ => ⟨S8192x10240, .fp8e4m3⟩
  | .local _ .vmem, ⟨5, _⟩ => ⟨S1x10240, .f32⟩
  | .local _ .vmem, ⟨6, _⟩ => ⟨S12288x10240, .bf16⟩
  | .local _ .vmem, ⟨7, _⟩ => ⟨S12288x8192, .bf16⟩
  | .local _ .vmem, ⟨8, _⟩ => ⟨S8192x10240, .f32⟩
  | .local _ .vmem, ⟨9, _⟩ => ⟨S1x8192, .f32⟩
  | _, _ => ⟨S2x6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x10240 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x10240 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x10240 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Blocks.lean ====
/- The first pallas_call: the windows' blocks, the staging memrefs, the branch condition. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs -/

/-- One staging buffer of output window 7, through which its contents are stated (`View.read_writes_of_cover`: the
    choice does not matter). -/
abbrev VO0_7 : View sig .tc .vmem S256x8192 .bf16 := (Memref.whole cc0_stg7_0 : Memref sig .tc .vmem S256x8192 .bf16).view
/-- One staging buffer of output window 8, through which its contents are stated (`View.read_writes_of_cover`: the
    choice does not matter). -/
abbrev VO0_8 : View sig .tc .vmem S8192x256 .bf16 := (Memref.whole cc0_stg8_0 : Memref sig .tc .vmem S8192x256 .bf16).view
/-- One staging buffer of output window 9, through which its contents are stated (`View.read_writes_of_cover`: the
    choice does not matter). -/
abbrev VO0_9 : View sig .tc .vmem S1x8192 .f32 := (Memref.whole cc0_stg9_0 : Memref sig .tc .vmem S1x8192 .f32).view
/-- Each window's current staging memref at point `t`, spelled as the pipeline passes it (`bodyAt0`), and its wholeness. -/
abbrev ms0_0 (t : Fin cfg0.N) : Memref sig .tc .vmem S256x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x10240 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x10240 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x10240 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8192x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8192 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x8192 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

/-! ## The body's branch condition and where the outputs are idle -/

/-- The condition of the body's `if`: the last point of a row block. -/
abbrev cond0_0 (i : grid0.Coords) : Prop := k0_cond1 i = 1#1
/-- The coordinates of a point: its row block and its column block. -/
theorem coords0_0 (t : Fin grid0.N) : (grid0.coords t 0).val = t.val / 16 % 48 := Pipeline.Grid.coords_val t 0 (by decide) rfl
theorem coords0_1 (t : Fin grid0.N) : (grid0.coords t 1).val = t.val / 1 % 16 := Pipeline.Grid.coords_val t 1 (by decide) rfl
/-- It holds at the points ≡ 15 (mod 16). -/
theorem hcond0_0 : ∀ t : Fin cfg0.N, cond0_0 (grid0.coords t) ↔ t.val % 16 = 15 :=
  (fun t => by
    have ht : t.val < 768 := Nat.lt_of_lt_of_eq t.isLt N_0
    have e0 := coords0_0 t
    have e1 := coords0_1 t
    simp only [cond0_0, k0_cond1, e0, e1]
    word_cmp
   : ∀ t : Fin grid0.N, cond0_0 (grid0.coords t) ↔ t.val % 16 = 15)
/-- Away from the last point of a row block the output windows are idle; -/
theorem idleAt0_7 (t : Fin cfg0.N) (h : ¬t.val % 16 = 15) : cfg0.idle 7 (grid0.coords t) = true := by
  have hc : ¬cond0_0 (grid0.coords t) := fun hc => h ((hcond0_0 t).mp hc)
  show (!(k0_cond1 (grid0.coords t) == 1#1)) = true
  simpa using hc
theorem idleAt0_8 (t : Fin cfg0.N) (h : ¬t.val % 16 = 15) : cfg0.idle 8 (grid0.coords t) = true := idleAt0_7 t h
theorem idleAt0_9 (t : Fin cfg0.N) (h : ¬t.val % 16 = 15) : cfg0.idle 9 (grid0.coords t) = true := idleAt0_7 t h
/-- at it they are live. -/
theorem liveAt0_7 (t : Fin cfg0.N) (h : t.val % 16 = 15) : cfg0.idle 7 (grid0.coords t) = false := by
  have hc : cond0_0 (grid0.coords t) := (hcond0_0 t).mpr h
  show (!(k0_cond1 (grid0.coords t) == 1#1)) = false
  simpa using hc
theorem liveAt0_8 (t : Fin cfg0.N) (h : t.val % 16 = 15) : cfg0.idle 8 (grid0.coords t) = false := liveAt0_7 t h
theorem liveAt0_9 (t : Fin cfg0.N) (h : t.val % 16 = 15) : cfg0.idle 9 (grid0.coords t) = false := liveAt0_7 t h

end Cert.Kernel.Gen

end
-- ==== Proof.Kernel.Acc.lean ====
/- The tile a point of the first pallas_call computes, and the scratch after its store. -/
module

public import proofs.«01_k».proof.Proof.Kernel.Blocks
public import Idealize.ShloMosaic.Lib.WholeRead
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through a whole memref holding `X` reads `X` at the load's rectangle. -/
theorem ldU {sp : Space} {s : Shape} {e : EltTy} {m : Memref sig .tc sp s e} (h : m.IsWhole) (X : Vec F s e) (B : Rect s) :
    View.readAt (Elt F) m.view B.toLoadRect (h.unread X) = View.ld (Val := Elt F) X B := funext (h.readAt_unread X _)

/-- The tile of `dqkv · wᵀ` a point computes from its three blocks, ten columns chunks of 1024 added from zero. -/
def accOf (x4 : Vec F S512x10240 .fp8e4m3) (x5 : Vec F S1x10240 .f32) (x6 : Vec F S256x10240 .bf16) : Vec F S256x512 .f32 :=
  k0_pay1
    (k0_pay105
      (k0_pay102
      (k0_pay101
      (View.ld (Val := Elt F) x4 (Rect.unit ![0, 0] S512x1024.size inb_S512x10240_S512x1024_0_0)) (View.ld (Val := Elt F) x5 (Rect.unit ![0, 0] S1x1024.size inb_S1x10240_S1x1024_0_0))
      (View.ld (Val := Elt F) x6 (Rect.unit ![0, 0] S256x1024.size inb_S256x10240_S256x1024_0_0))
      (View.ld (Val := Elt F) x4 (Rect.unit ![0, 1024] S512x1024.size inb_S512x10240_S512x1024_0_1024)) (View.ld (Val := Elt F) x5 (Rect.unit ![0, 1024] S1x1024.size inb_S1x10240_S1x1024_0_1024))
      (View.ld (Val := Elt F) x6 (Rect.unit ![0, 1024] S256x1024.size inb_S256x10240_S256x1024_0_1024))
      (View.ld (Val := Elt F) x4 (Rect.unit ![0, 2048] S512x1024.size inb_S512x10240_S512x1024_0_2048)) (View.ld (Val := Elt F) x5 (Rect.unit ![0, 2048] S1x1024.size inb_S1x10240_S1x1024_0_2048))
      (View.ld (Val := Elt F) x6 (Rect.unit ![0, 2048] S256x1024.size inb_S256x10240_S256x1024_0_2048)))
      (View.ld (Val := Elt F) x4 (Rect.unit ![0, 3072] S512x1024.size inb_S512x10240_S512x1024_0_3072)) (View.ld (Val := Elt F) x5 (Rect.unit ![0, 3072] S1x1024.size inb_S1x10240_S1x1024_0_3072))
      (View.ld (Val := Elt F) x6 (Rect.unit ![0, 3072] S256x1024.size inb_S256x10240_S256x1024_0_3072))
      (View.ld (Val := Elt F) x4 (Rect.unit ![0, 4096] S512x1024.size inb_S512x10240_S512x1024_0_4096)) (View.ld (Val := Elt F) x5 (Rect.unit ![0, 4096] S1x1024.size inb_S1x10240_S1x1024_0_4096))
      (View.ld (Val := Elt F) x6 (Rect.unit ![0, 4096] S256x1024.size inb_S256x10240_S256x1024_0_4096))
      (View.ld (Val := Elt F) x4 (Rect.unit ![0, 5120] S512x1024.size inb_S512x10240_S512x1024_0_5120)) (View.ld (Val := Elt F) x5 (Rect.unit ![0, 5120] S1x1024.size inb_S1x10240_S1x1024_0_5120))
      (View.ld (Val := Elt F) x6 (Rect.unit ![0, 5120] S256x1024.size inb_S256x10240_S256x1024_0_5120)))
      (k0_pay103 (View.ld (Val := Elt F) x4 (Rect.unit ![0, 6144] S512x1024.size inb_S512x10240_S512x1024_0_6144))) (k0_pay104 (View.ld (Val := Elt F) x5 (Rect.unit ![0, 6144] S1x1024.size inb_S1x10240_S1x1024_0_6144)))
      (View.ld (Val := Elt F) x6 (Rect.unit ![0, 6144] S256x1024.size inb_S256x10240_S256x1024_0_6144))
      (View.ld (Val := Elt F) x4 (Rect.unit ![0, 7168] S512x1024.size inb_S512x10240_S512x1024_0_7168)) (View.ld (Val := Elt F) x5 (Rect.unit ![0, 7168] S1x1024.size inb_S1x10240_S1x1024_0_7168))
      (View.ld (Val := Elt F) x6 (Rect.unit ![0, 7168] S256x1024.size inb_S256x10240_S256x1024_0_7168))
      (View.ld (Val := Elt F) x4 (Rect.unit ![0, 8192] S512x1024.size inb_S512x10240_S512x1024_0_8192)) (View.ld (Val := Elt F) x5 (Rect.unit ![0, 8192] S1x1024.size inb_S1x10240_S1x1024_0_8192))
      (View.ld (Val := Elt F) x6 (Rect.unit ![0, 8192] S256x1024.size inb_S256x10240_S256x1024_0_8192)))
    (k0_pay106 (View.ld (Val := Elt F) x4 (Rect.unit ![0, 9216] S512x1024.size inb_S512x10240_S512x1024_0_9216)) (View.ld (Val := Elt F) x5 (Rect.unit ![0, 9216] S1x1024.size inb_S1x10240_S1x1024_0_9216)))
    (View.ld (Val := Elt F) x6 (Rect.unit ![0, 9216] S256x1024.size inb_S256x10240_S256x1024_0_9216))

/-- The scratch `s` with the tile of a point stored at the point's columns. -/
def putTile (i : grid0.Coords) (s : Vec F S256x8192 .f32) (a : Vec F S256x512 .f32) : Vec F S256x8192 .f32 :=
  VecWindow.put s (k0_off1 i) S256x512.size a

/-- A whole memref holding `s`, the tile stored into it, holds `putTile`. -/
theorem writes_tile {m : Memref sig .tc .vmem S256x8192 .f32} (h : m.IsWhole) (i : grid0.Coords) (s : Vec F S256x8192 .f32)
    (a : Vec F S256x512 .f32) :
    m.view.writes (Elt F) (h.unread s) [⟨Rect.unit (s := S256x8192) (k0_off1 i) S256x512.size (k0_off1_inb i), a⟩]
      = h.unread (putTile i s a) := by
  apply h.eq_unread
  rw [View.read_writes_cons_put _ _ _ _ _ rfl, View.writes_nil, h.read_unread]
  rfl

/-- The same with the contents after the store named `sf`. -/
theorem writes_tile_to {m : Memref sig .tc .vmem S256x8192 .f32} (h : m.IsWhole) (i : grid0.Coords) (s sf : Vec F S256x8192 .f32)
    (a : Vec F S256x512 .f32) (ha : putTile i s a = sf) :
    m.view.writes (Elt F) (h.unread s) [⟨Rect.unit (s := S256x8192) (k0_off1 i) S256x512.size (k0_off1_inb i), a⟩]
      = h.unread sf := by
  rw [writes_tile, ha]

end Cert.Kernel.Gen

end
-- ==== Proof.Kernel.RunA.lean ====
/- The body of the first pallas_call, run at a point that is not the last of its row block. -/
module

public import proofs.«01_k».proof.Proof.Kernel.Acc
public import Idealize.ShloMosaic.Lib.WholeRead
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1600000 in
/-- What the body does at a point that is not the last of its row block: on whole staging memrefs — the inputs'
    at their contents, the scratch at `s` — it runs to the continuation holding the inputs' as they were and the
    scratch at `s` with the point's tile stored. The outputs are not touched. -/
theorem kernelRun0_A (c : Dev nD) (i : grid0.Coords) (arg2 : Memref sig .tc .vmem S256x8192 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S1x8192 .f32) (harg5 : arg5.IsWhole) (arg6 : Memref sig .tc .vmem S512x10240 .fp8e4m3) (harg6 : arg6.IsWhole) (arg7 : Memref sig .tc .vmem S1x10240 .f32) (harg7 : arg7.IsWhole) (arg8 : Memref sig .tc .vmem S256x10240 .bf16) (harg8 : arg8.IsWhole) (arg9 : Memref sig .tc .vmem S256x8192 .bf16) (harg9 : arg9.IsWhole) (arg10 : Memref sig .tc .vmem S8192x256 .bf16) (harg10 : arg10.IsWhole) (arg11 : Memref sig .tc .vmem S1x8192 .f32) (harg11 : arg11.IsWhole) (arg12 : Memref sig .tc .vmem S256x8192 .f32) (harg12 : arg12.IsWhole) (hc0 : ¬cond0_0 i)
    (x0 : Vec F S256x8192 .fp8e4m3) (x1 : Vec F S256x1 .f32) (x2 : Vec F S256x1 .f32) (x3 : Vec F S1x8192 .f32) (x4 : Vec F S512x10240 .fp8e4m3) (x5 : Vec F S1x10240 .f32) (x6 : Vec F S256x10240 .bf16) (s : Vec F S256x8192 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg12 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg12 fullShare (putTile i s (accOf x4 x5 x6))) -∗ K ⟨⟩))
          ⊢ wp frame (wpE (defs₀ (F := F)) Variants.none c none) E (cc0_dx_rmsnorm_bwd i arg2 harg2 arg3 harg3 arg4 harg4 arg5 harg5 arg6 harg6 arg7 harg7 arg8 harg8 arg9 harg9 arg10 harg10 arg11 harg11 arg12 harg12) K := by
    simp only [cc0_dx_rmsnorm_bwd_eq_skeleton]; unfold cc0_dx_rmsnorm_bwd_skel
    simp only [k0_part25_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    sl_unfold_run_names
    simp only [ldU]
    iexists _; isplitr [HS0]; swap; iexact HS0
    ipureintro
    exact (congrArg _ (writes_tile harg12 i s (accOf x4 x5 x6))).trans (harg12.read_unread _)

end Cert.Kernel.Gen

end
-- ==== Proof.Kernel.RunB.lean ====
/- The body of the first pallas_call, run at the last point of a row block. -/
module

public import proofs.«01_k».proof.Proof.Kernel.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body stores at the last point of a row block, as pieces (last first) — into `dx` (window 7), the
    transposed normalised rows (window 8) and `dgamma` (window 9) —, WITH the proof that on whole staging memrefs
    — the inputs' at their contents, `dgamma`'s at `xo9`, the scratch at contents that the point's tile completes
    to `sf`, the other outputs' at anything — the body runs to the continuation holding the inputs' as they were,
    the scratch at `sf` and each output overwritten by its pieces. -/
noncomputable def kernelRun0_B (c : Dev nD) (i : grid0.Coords) (arg2 : Memref sig .tc .vmem S256x8192 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S1x8192 .f32) (harg5 : arg5.IsWhole) (arg6 : Memref sig .tc .vmem S512x10240 .fp8e4m3) (harg6 : arg6.IsWhole) (arg7 : Memref sig .tc .vmem S1x10240 .f32) (harg7 : arg7.IsWhole) (arg8 : Memref sig .tc .vmem S256x10240 .bf16) (harg8 : arg8.IsWhole) (arg9 : Memref sig .tc .vmem S256x8192 .bf16) (harg9 : arg9.IsWhole) (arg10 : Memref sig .tc .vmem S8192x256 .bf16) (harg10 : arg10.IsWhole) (arg11 : Memref sig .tc .vmem S1x8192 .f32) (harg11 : arg11.IsWhole) (arg12 : Memref sig .tc .vmem S256x8192 .f32) (harg12 : arg12.IsWhole)
    (x0 : Vec F S256x8192 .fp8e4m3) (x1 : Vec F S256x1 .f32) (x2 : Vec F S256x1 .f32) (x3 : Vec F S1x8192 .f32) (x4 : Vec F S512x10240 .fp8e4m3) (x5 : Vec F S1x10240 .f32) (x6 : Vec F S256x10240 .bf16) (xo9 : Vec F S1x8192 .f32) (sf : Vec F S256x8192 .f32) :
    Σ' (L7 : List (View.Piece (Elt F) S256x8192 .bf16)) (L8 : List (View.Piece (Elt F) S8192x256 .bf16)),
    { L9 : List (View.Piece (Elt F) S1x8192 .f32) //
      ∀ (hc0 : cond0_0 i) (s : Vec F S256x8192 .f32) (hsf : putTile i s (accOf x4 x5 x6) = sf) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xo9 ∗ owns (c : Thread nD τ) arg12 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare sf) -∗ K ⟨⟩))
          ⊢ wp frame (wpE (defs₀ (F := F)) Variants.none c none) E (cc0_dx_rmsnorm_bwd i arg2 harg2 arg3 harg3 arg4 harg4 arg5 harg5 arg6 harg6 arg7 harg7 arg8 harg8 arg9 harg9 arg10 harg10 arg11 harg11 arg12 harg12) K } := by
  refine ⟨?_, ?_, ?_, fun hc0 s hsf E K => ?run⟩
  case run =>
    simp only [cc0_dx_rmsnorm_bwd_eq_skeleton]; unfold cc0_dx_rmsnorm_bwd_skel
    simp only [k0_part25_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hfs
    set_option sl_exec.stopBefore "k0_cond1" in
      sl_exec (disch := first | sl_exact hc0)
    rw [writes_tile_to harg12 i s sf _ ?hsf]
    case hsf =>
      sl_unfold_run_names
      simp only [ldU]
      exact hsf
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    iexists _; isplitr; · ipureintro; exact harg12.read_unread _
    iexact HS0

end Cert.Kernel.Gen

end
-- ==== Proof.Kernel.Tiles.lean ====
/- The tiles the last point of a row block stores, uniformly in the slice of 512 columns. -/
module

public import proofs.«01_k».proof.Proof.Kernel.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The slices of 512 columns -/

theorem rowInb (k : Fin 16) : ∀ a, (![0, 512 * k.val] : Fin 2 → ℕ) a + S256x512.size a ≤ S256x8192.size a := by
  intro a; have := k.isLt; fin_cases a
  · exact Nat.le_refl 256
  · show 512 * k.val + 512 ≤ 8192; omega
theorem vecInb (k : Fin 16) : ∀ a, (![0, 512 * k.val] : Fin 2 → ℕ) a + S1x512.size a ≤ S1x8192.size a := by
  intro a; have := k.isLt; fin_cases a
  · exact Nat.le_refl 1
  · show 512 * k.val + 512 ≤ 8192; omega
theorem colInb (k : Fin 16) : ∀ a, (![512 * k.val, 0] : Fin 2 → ℕ) a + S512x256.size a ≤ S8192x256.size a := by
  intro a; have := k.isLt; fin_cases a
  · show 512 * k.val + 512 ≤ 8192; omega
  · exact Nat.le_refl 256
/-- The columns `512 k …` of a block of 256 rows. -/
abbrev rowRect (k : Fin 16) : Rect S256x8192 := Rect.unit (s := S256x8192) ![0, 512 * k.val] S256x512.size (rowInb k)
/-- The columns `512 k …` of a row vector. -/
abbrev vecRect (k : Fin 16) : Rect S1x8192 := Rect.unit (s := S1x8192) ![0, 512 * k.val] S1x512.size (vecInb k)
/-- The rows `512 k …` of a transposed block. -/
abbrev colRect (k : Fin 16) : Rect S8192x256 := Rect.unit (s := S8192x256) ![512 * k.val, 0] S512x256.size (colInb k)
/-- A block of 256 rows, its slice `k`. -/
def rowSl {e : EltTy} (x : Vec F S256x8192 e) (k : Fin 16) : Vec F S256x512 e := View.ld (Val := Elt F) x (rowRect k)
/-- A row vector, its slice `k`. -/
def vecSl {e : EltTy} (x : Vec F S1x8192 e) (k : Fin 16) : Vec F S1x512 e := View.ld (Val := Elt F) x (vecRect k)

/-! ## The tiles the last point of a row block stores, uniformly in the slice -/

/-- The transposed normalised rows, slice `k`. -/
def xhtT (x0 : Vec F S256x8192 .fp8e4m3) (x1 x2 : Vec F S256x1 .f32) (x3 : Vec F S1x8192 .f32) (k : Fin 16) : Vec F S512x256 .bf16 :=
  k0_pay7 x1 x2 (rowSl x0 k) (vecSl x3 k)
/-- `dgamma`, slice `k`: this row block's contribution, added to `old` except at row block 0. -/
def dgT (b : BitVec 32) (x0 : Vec F S256x8192 .fp8e4m3) (x1 x2 : Vec F S256x1 .f32) (old : Vec F S1x8192 .f32) (sf : Vec F S256x8192 .f32)
    (k : Fin 16) : Vec F S1x512 .f32 :=
  k0_pay8 b x1 x2 (rowSl x0 k) (rowSl sf k) (vecSl old k)
/-- The row sums of `dxhat * gamma * n` over the first `m` slices. -/
def projN (x0 : Vec F S256x8192 .fp8e4m3) (x1 x2 : Vec F S256x1 .f32) (x3 : Vec F S1x8192 .f32) (sf : Vec F S256x8192 .f32) :
    (m : ℕ) → m ≤ 16 → Vec F S256x1 .f32
  | 0, _ => k0_pay5
  | m + 1, h => k0_pay17 (k0_pay3 x1) (k0_pay4 x2) (projN x0 x1 x2 x3 sf m (Nat.le_of_succ_le h)) (rowSl x0 ⟨m, h⟩) (rowSl sf ⟨m, h⟩) (vecSl x3 ⟨m, h⟩)
/-- The row means of `dxhat * gamma * n`: the sums over all slices, times `1 / 8192`. -/
def projOf (x0 : Vec F S256x8192 .fp8e4m3) (x1 x2 : Vec F S256x1 .f32) (x3 : Vec F S1x8192 .f32) (sf : Vec F S256x8192 .f32) : Vec F S256x1 .f32 :=
  k0_pay77 (projN x0 x1 x2 x3 sf 15 (by omega)) (k0_pay6 x1 x2 (rowSl x0 15)) (rowSl sf 15) (vecSl x3 15)
/-- `dx`, slice `k`. -/
def dxT (x0 : Vec F S256x8192 .fp8e4m3) (x1 x2 : Vec F S256x1 .f32) (x3 : Vec F S1x8192 .f32) (sf : Vec F S256x8192 .f32) (k : Fin 16) :
    Vec F S256x512 .bf16 :=
  k0_pay80 (k0_pay3 x1) (k0_pay4 x2) (projOf x0 x1 x2 x3 sf) (rowSl x0 k) (rowSl sf k) (vecSl x3 k)

/-- The pieces stored into `dx`, last first. -/
def dxL (x0 : Vec F S256x8192 .fp8e4m3) (x1 x2 : Vec F S256x1 .f32) (x3 : Vec F S1x8192 .f32) (sf : Vec F S256x8192 .f32) :
    List (View.Piece (Elt F) S256x8192 .bf16) :=
  List.ofFn fun k : Fin 16 => ⟨rowRect k.rev, dxT x0 x1 x2 x3 sf k.rev⟩
/-- The pieces stored into the transposed normalised rows, last first. -/
def xhtL (x0 : Vec F S256x8192 .fp8e4m3) (x1 x2 : Vec F S256x1 .f32) (x3 : Vec F S1x8192 .f32) : List (View.Piece (Elt F) S8192x256 .bf16) :=
  List.ofFn fun k : Fin 16 => ⟨colRect k.rev, xhtT x0 x1 x2 x3 k.rev⟩
/-- The pieces stored into `dgamma`, last first. -/
def dgL (b : BitVec 32) (x0 : Vec F S256x8192 .fp8e4m3) (x1 x2 : Vec F S256x1 .f32) (old : Vec F S1x8192 .f32) (sf : Vec F S256x8192 .f32) :
    List (View.Piece (Elt F) S1x8192 .f32) :=
  List.ofFn fun k : Fin 16 => ⟨vecRect k.rev, dgT b x0 x1 x2 old sf k.rev⟩

/-- A load of a whole column vector reads it. -/
theorem ldCol (x : Vec F S256x1 .f32) (inb) : View.ld (Val := Elt F) x (Rect.unit (s := S256x1) ![0, 0] ![256, 1] inb) = x :=
  View.ld_unit_zero (by funext a; fin_cases a <;> rfl) inb x

section
variable (c : Dev nD) (i : grid0.Coords) (arg2 : Memref sig .tc .vmem S256x8192 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S1x8192 .f32) (harg5 : arg5.IsWhole) (arg6 : Memref sig .tc .vmem S512x10240 .fp8e4m3) (harg6 : arg6.IsWhole) (arg7 : Memref sig .tc .vmem S1x10240 .f32) (harg7 : arg7.IsWhole) (arg8 : Memref sig .tc .vmem S256x10240 .bf16) (harg8 : arg8.IsWhole) (arg9 : Memref sig .tc .vmem S256x8192 .bf16) (harg9 : arg9.IsWhole) (arg10 : Memref sig .tc .vmem S8192x256 .bf16) (harg10 : arg10.IsWhole) (arg11 : Memref sig .tc .vmem S1x8192 .f32) (harg11 : arg11.IsWhole) (arg12 : Memref sig .tc .vmem S256x8192 .f32) (harg12 : arg12.IsWhole)
    (x0 : Vec F S256x8192 .fp8e4m3) (x1 : Vec F S256x1 .f32) (x2 : Vec F S256x1 .f32) (x3 : Vec F S1x8192 .f32) (x4 : Vec F S512x10240 .fp8e4m3) (x5 : Vec F S1x10240 .f32) (x6 : Vec F S256x10240 .bf16) (xo9 : Vec F S1x8192 .f32) (sf : Vec F S256x8192 .f32)

set_option maxHeartbeats 4000000 in
/-- The run's pieces for `dgamma` are these. -/
theorem run_dgL : (kernelRun0_B c i arg2 harg2 arg3 harg3 arg4 harg4 arg5 harg5 arg6 harg6 arg7 harg7 arg8 harg8 arg9 harg9 arg10 harg10 arg11 harg11 arg12 harg12 x0 x1 x2 x3 x4 x5 x6 xo9 sf).2.2.1 = dgL (BitVec.ofNat 32 (i 0).val) x0 x1 x2 xo9 sf := by
  unfold kernelRun0_B
  sl_unfold_run_names
  simp only [ldU, ldCol]
  rfl
set_option maxHeartbeats 4000000 in
/-- The run's pieces for the transposed normalised rows are these. -/
theorem run_xhtL : (kernelRun0_B c i arg2 harg2 arg3 harg3 arg4 harg4 arg5 harg5 arg6 harg6 arg7 harg7 arg8 harg8 arg9 harg9 arg10 harg10 arg11 harg11 arg12 harg12 x0 x1 x2 x3 x4 x5 x6 xo9 sf).2.1 = xhtL x0 x1 x2 x3 := by
  unfold kernelRun0_B
  sl_unfold_run_names
  simp only [ldU, ldCol]
  rfl
set_option maxHeartbeats 4000000 in
/-- The run's pieces for `dx` are these. -/
theorem run_dxL : (kernelRun0_B c i arg2 harg2 arg3 harg3 arg4 harg4 arg5 harg5 arg6 harg6 arg7 harg7 arg8 harg8 arg9 harg9 arg10 harg10 arg11 harg11 arg12 harg12 x0 x1 x2 x3 x4 x5 x6 xo9 sf).1 = dxL x0 x1 x2 x3 sf := by
  unfold kernelRun0_B
  sl_unfold_run_names
  simp only [ldU, ldCol]
  rfl
end

end Cert.Kernel.Gen

end
-- ==== Proof.Kernel.Outs.lean ====
/- What the first pallas_call leaves at each point. -/
module

public import proofs.«01_k».proof.Proof.Kernel.Tiles
public import Idealize.ShloMosaic.Lib.Pointwise.Index
public import Idealize.ShloMosaic.Lib.Pipeline.TableIdle

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces cover their blocks, and what they leave -/

theorem mem_rowRect (k : Fin 16) (y : S256x8192.Idx) (h1 : 512 * k.val ≤ (y 1).val) (h2 : (y 1).val < 512 * k.val + 512) : y ∈ (rowRect k).set := by
  have h0 : (y 0).val < 256 := (y 0).isLt
  rw [Rect.mem_set_unit]
  intro a; fin_cases a
  · exact ⟨Nat.zero_le _, by show (y 0).val < 0 + 256; omega⟩
  · exact ⟨h1, h2⟩
theorem mem_vecRect (k : Fin 16) (y : S1x8192.Idx) (h1 : 512 * k.val ≤ (y 1).val) (h2 : (y 1).val < 512 * k.val + 512) : y ∈ (vecRect k).set := by
  have h0 : (y 0).val < 1 := (y 0).isLt
  rw [Rect.mem_set_unit]
  intro a; fin_cases a
  · exact ⟨Nat.zero_le _, by show (y 0).val < 0 + 1; omega⟩
  · exact ⟨h1, h2⟩
theorem mem_colRect (k : Fin 16) (y : S8192x256.Idx) (h1 : 512 * k.val ≤ (y 0).val) (h2 : (y 0).val < 512 * k.val + 512) : y ∈ (colRect k).set := by
  have h0 : (y 1).val < 256 := (y 1).isLt
  rw [Rect.mem_set_unit]
  intro a; fin_cases a
  · exact ⟨h1, h2⟩
  · exact ⟨Nat.zero_le _, by show (y 1).val < 0 + 256; omega⟩
theorem dxL_cover (x0 : Vec F S256x8192 .fp8e4m3) (x1 x2 : Vec F S256x1 .f32) (x3 : Vec F S1x8192 .f32) (sf : Vec F S256x8192 .f32)
    (y : S256x8192.Idx) : ∃ p ∈ dxL x0 x1 x2 x3 sf, y ∈ p.1.set := by
  have h0 : (y 0).val < 256 := (y 0).isLt
  have h1 : (y 1).val < 8192 := (y 1).isLt
  refine ⟨_, List.mem_ofFn.mpr ⟨(⟨(y 1).val / 512, by omega⟩ : Fin 16).rev, rfl⟩, ?_⟩
  rw [Fin.rev_rev]
  exact mem_rowRect _ y (by dsimp only; omega) (by dsimp only; omega)
theorem xhtL_cover (x0 : Vec F S256x8192 .fp8e4m3) (x1 x2 : Vec F S256x1 .f32) (x3 : Vec F S1x8192 .f32)
    (y : S8192x256.Idx) : ∃ p ∈ xhtL x0 x1 x2 x3, y ∈ p.1.set := by
  have h0 : (y 0).val < 8192 := (y 0).isLt
  have h1 : (y 1).val < 256 := (y 1).isLt
  refine ⟨_, List.mem_ofFn.mpr ⟨(⟨(y 0).val / 512, by omega⟩ : Fin 16).rev, rfl⟩, ?_⟩
  rw [Fin.rev_rev]
  exact mem_colRect _ y (by dsimp only; omega) (by dsimp only; omega)
theorem dgL_cover (b : BitVec 32) (x0 : Vec F S256x8192 .fp8e4m3) (x1 x2 : Vec F S256x1 .f32) (old : Vec F S1x8192 .f32) (sf : Vec F S256x8192 .f32)
    (y : S1x8192.Idx) : ∃ p ∈ dgL b x0 x1 x2 old sf, y ∈ p.1.set := by
  have h0 : (y 0).val < 1 := (y 0).isLt
  have h1 : (y 1).val < 8192 := (y 1).isLt
  refine ⟨_, List.mem_ofFn.mpr ⟨(⟨(y 1).val / 512, by omega⟩ : Fin 16).rev, rfl⟩, ?_⟩
  rw [Fin.rev_rev]
  exact mem_vecRect _ y (by dsimp only; omega) (by dsimp only; omega)

/-- The `dx` block of a row block. -/
def dxBlk (x0 : Vec F S256x8192 .fp8e4m3) (x1 x2 : Vec F S256x1 .f32) (x3 : Vec F S1x8192 .f32) (sf : Vec F S256x8192 .f32) : Vec F S256x8192 .bf16 :=
  View.canon (dxL x0 x1 x2 x3 sf)
/-- The block of transposed normalised rows of a row block. -/
def xhtBlk (x0 : Vec F S256x8192 .fp8e4m3) (x1 x2 : Vec F S256x1 .f32) (x3 : Vec F S1x8192 .f32) : Vec F S8192x256 .bf16 :=
  View.canon (xhtL x0 x1 x2 x3)
/-- `dgamma` after row block `b`, over what it held before. -/
def dgBlk (b : BitVec 32) (x0 : Vec F S256x8192 .fp8e4m3) (x1 x2 : Vec F S256x1 .f32) (old : Vec F S1x8192 .f32) (sf : Vec F S256x8192 .f32) :
    Vec F S1x8192 .f32 :=
  View.canon (dgL b x0 x1 x2 old sf)
/-- At row block 0 what `dgamma` held before does not matter. -/
theorem dgBlk_zero (x0 : Vec F S256x8192 .fp8e4m3) (x1 x2 : Vec F S256x1 .f32) (old old' : Vec F S1x8192 .f32) (sf : Vec F S256x8192 .f32) :
    dgBlk 0#32 x0 x1 x2 old sf = dgBlk 0#32 x0 x1 x2 old' sf := by
  have h : ∀ k, dgT 0#32 x0 x1 x2 old sf k = dgT 0#32 x0 x1 x2 old' sf k := fun k => rfl
  unfold dgBlk dgL
  simp only [h]

/-! ## What the scratch and the outputs hold, point by point -/

variable (V : (c : Dev nD) → (b : Ref sig .tc) → Buf (Elt F) ((c : Thread nD τ).loc b))

/-- Point `n` of the grid. -/
def pt0 (n : ℕ) : Fin cfg0.N := ⟨n % 768, Nat.lt_of_lt_of_eq (Nat.mod_lt _ (by decide)) N_0.symm⟩
theorem pt0_val (t : Fin cfg0.N) (n : ℕ) (h : n = t.val) : pt0 n = t := by
  subst h; exact Fin.ext (Nat.mod_eq_of_lt (Nat.lt_of_lt_of_eq t.isLt N_0))
/-- A column of a block, within its tile. -/
def inTile (y : S256x8192.Idx) : S256x512.Idx := ix2 (n0 := 256) (n1 := 512) (y 0) ⟨(y 1).val % 512, Nat.mod_lt _ (by decide)⟩
/-- The tile point `t` computes. -/
def accAt (c : Dev nD) (t : Fin cfg0.N) : Vec F S256x512 .f32 := accOf (iblk0 V c 4 t) (iblk0 V c 5 t) (iblk0 V c 6 t)
/-- `dqkv · wᵀ` at row block `r`, from the tiles of its sixteen points. -/
def dxhatRow (c : Dev nD) (r : ℕ) : Vec F S256x8192 .f32 := fun y => accAt V c (pt0 (16 * r + (y 1).val / 512)) (inTile y)
/-- The scratch before point `n`: the columns of the row block's points before it are in place. -/
def Holds0 (c : Dev nD) (n : ℕ) (s : Vec F S256x8192 .f32) : Prop :=
  ∀ y : S256x8192.Idx, (y 1).val < 512 * (n % 16) → s y = dxhatRow V c (n / 16) y
/-- The scratch with the tile of point `t` stored, at a column of the row block's points up to `t`. -/
theorem putTile_row (c : Dev nD) (t : Fin cfg0.N) (s : Vec F S256x8192 .f32) (h : Holds0 V c t.val s)
    (y : S256x8192.Idx) (hy : (y 1).val < 512 * (t.val % 16) + 512) :
    putTile (grid0.coords t) s (accAt V c t) y = dxhatRow V c (t.val / 16) y := by
  have e1 := coords0_1 t
  have ht : t.val < 768 := Nat.lt_of_lt_of_eq t.isLt N_0
  have h0 : (y 0).val < 256 := (y 0).isLt
  unfold putTile VecWindow.put
  by_cases hc : 512 * (t.val % 16) ≤ (y 1).val
  · have hin : ∀ a : Fin S256x8192.rank, k0_off1 (grid0.coords t) a ≤ (y a).val ∧ (y a).val < k0_off1 (grid0.coords t) a + S256x512.size a := by
      rw [k0_off1_eq, e1, Nat.div_one]
      intro a; fin_cases a
      · exact ⟨Nat.zero_le _, by show (y 0).val < 0 + 256; omega⟩
      · exact ⟨hc, hy⟩
    rw [dif_pos hin]
    unfold dxhatRow
    rw [pt0_val t (16 * (t.val / 16) + (y 1).val / 512) (by omega)]
    refine congrArg _ (funext fun a => Fin.ext ?_)
    rw [Rect.unitLocal_val]
    have ho : k0_off1 (grid0.coords t) = ![0, 512 * (t.val % 16)] := by rw [k0_off1_eq, e1, Nat.div_one]
    rw [ho]
    fin_cases a
    · rfl
    · show (y 1).val - 512 * (t.val % 16) = (y 1).val % 512
      omega
  · rw [dif_neg]
    · exact h y (by omega)
    · intro hin
      have := (hin 1).1
      rw [k0_off1_eq, e1, Nat.div_one] at this
      exact hc this
/-- Before the last point of a row block's successor the next row block starts; before any other the columns are one tile more. -/
theorem holds0_succ (c : Dev nD) (t : Fin cfg0.N) (s : Vec F S256x8192 .f32) (h : Holds0 V c t.val s) (h15 : ¬t.val % 16 = 15) :
    Holds0 V c (t.val + 1) (putTile (grid0.coords t) s (accAt V c t)) := by
  intro y hy
  rw [show (t.val + 1) / 16 = t.val / 16 by omega]
  exact putTile_row V c t s h y (by omega)
theorem holds0_start (c : Dev nD) (n : ℕ) (s : Vec F S256x8192 .f32) (h : n % 16 = 0) : Holds0 V c n s := by
  intro y hy; rw [h] at hy; omega
/-- At the last point of a row block the scratch, completed by the point's tile, is the row block's product. -/
theorem putTile_last (c : Dev nD) (t : Fin cfg0.N) (s : Vec F S256x8192 .f32) (h : Holds0 V c t.val s) (h15 : t.val % 16 = 15) :
    putTile (grid0.coords t) s (accAt V c t) = dxhatRow V c (t.val / 16) :=
  funext fun y => putTile_row V c t s h y (by have : (y 1).val < 8192 := (y 1).isLt; omega)

/-- `dgamma` after `r` row blocks. -/
def dgAcc (c : Dev nD) : ℕ → Vec F S1x8192 .f32
  | 0 => View.canon []
  | r + 1 => dgBlk (BitVec.ofNat 32 r) (iblk0 V c 0 (pt0 (16 * r + 15))) (iblk0 V c 1 (pt0 (16 * r + 15))) (iblk0 V c 2 (pt0 (16 * r + 15)))
      (dgAcc c r) (dxhatRow V c r)

/-! ## The pipeline's proof data -/

/-- The buffers of the program that region 0 leaves alone. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))
/-- The invariant: the scratch holds the row block's tiles so far; the other buffers and the generator register at anything. -/
def Phi0 (c : Dev nD) (n : ℕ) : sProp 𝕄 :=
  iprop(((∃ s, ⌜Holds0 V c n s⌝ ∗ owns (c : Thread nD τ) scM0_0 fullShare s) ∗ rest0 c) ∗ (∃ r, prngReg c r))
/-- It is what the region is entered with, -/
theorem Phi0_in (c : Dev nD) : (Pipeline.ΦA spec0 c : sProp 𝕄) ⊢ Phi0 V c 0 := by
  rw [PhiA0_eq]; unfold Phi0 rest0
  iintro ⟨⟨⟨%s, HS⟩, HR⟩, Hg⟩
  isplitl [HS HR]
  · isplitl [HS]
    · iexists s; isplitr; · ipureintro; exact holds0_start V c 0 s rfl
      iexact HS
    iexact HR
  iexact Hg
/-- and gives back what the region is left with. -/
theorem Phi0_out (c : Dev nD) (n : ℕ) : Phi0 V c n ⊢ (Pipeline.ΦA spec0 c : sProp 𝕄) := by
  rw [PhiA0_eq]; unfold Phi0 rest0
  iintro ⟨⟨⟨%s, -, HS⟩, HR⟩, Hg⟩
  isplitl [HS HR]
  · isplitl [HS]
    · iexists s; iexact HS
    iexact HR
  iexact Hg

/-- The proof data of pipeline 0 on core `c`: the arrays as the region finds them (`V`); after the body at
    point `t` each input's buffer at its block and the outputs' at their row block's contents; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => dxBlk (iblk0 V c 0 t) (iblk0 V c 1 t) (iblk0 V c 2 t) (iblk0 V c 3 t) (dxhatRow V c (t.val / 16))
    | ⟨8, _⟩ => xhtBlk (iblk0 V c 0 t) (iblk0 V c 1 t) (iblk0 V c 2 t) (iblk0 V c 3 t)
    | ⟨9, _⟩ => dgAcc V c ((t.val + 1) / 16)
  Φ t := Phi0 V c t.val
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = dxBlk (iblk0 V c 0 t) (iblk0 V c 1 t) (iblk0 V c 2 t) (iblk0 V c 3 t) (dxhatRow V c (t.val / 16)) := by dsimp only [dat0]
theorem after0_8 (c : Dev nD) (t : Fin cfg0.N) : (dat0 V c).after 8 t = xhtBlk (iblk0 V c 0 t) (iblk0 V c 1 t) (iblk0 V c 2 t) (iblk0 V c 3 t) := by dsimp only [dat0]
theorem after0_9 (c : Dev nD) (t : Fin cfg0.N) : (dat0 V c).after 9 t = dgAcc V c ((t.val + 1) / 16) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Cert.Kernel.Gen

end
-- ==== Proof.Kernel.Region0.lean ====
/- The body of the first pallas_call meets its obligation at every point. -/
module

public import proofs.«01_k».proof.Proof.Kernel.Outs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## `dgamma`'s buffer between the row blocks -/

variable (V : (c : Dev nD) → (b : Ref sig .tc) → Buf (Elt F) ((c : Thread nD τ).loc b))

/-- After the first row block `dgamma`'s buffer is never fresh. -/
theorem fresh0_9 : ∀ n : ℕ, n < 768 → 15 < n → cfg0.fresh 9 n = false
  | 0, _, h => absurd h (by decide)
  | n + 1, hn, h => by
    have hN : n < cfg0.N := Nat.lt_of_lt_of_eq (Nat.lt_of_succ_lt hn) N_0.symm
    rw [Cfg.fresh_succ _ _ n hN]
    have hf : (cfg0.win 9).flush ⟨n, hN⟩ = false := Bool.eq_false_iff.mpr fun h => by
      have := (flush0_9 _).mp h; dsimp only at this; omega
    rw [hf, Bool.false_or]
    by_cases h15 : n % 16 = 15
    · rw [liveAt0_9 ⟨n, hN⟩ h15, Bool.false_and]
    · rw [fresh0_9 n (by omega) (by omega), Bool.and_false]
/-- What the body finds in it at the last point of a row block, past the first: the sum so far. -/
theorem before0_9 (c : Dev nD) (t : Fin cfg0.N) (h15 : t.val % 16 = 15) (h : 15 < t.val) (d) :
    (dat0 V c).before 9 t d = dgAcc V c (t.val / 16) := by
  have ht : t.val < 768 := Nat.lt_of_lt_of_eq t.isLt N_0
  rw [Dat.before_out_traj (dat0 V c) 9 rfl (fun _ _ => rfl) (fun t ht0 hi hf => by
      rw [after0_9, after0_9]
      have : ¬t.val % 16 = 15 := fun hl => by rw [liveAt0_9 t hl] at hi; exact Bool.false_ne_true hi
      congr 1; dsimp only; omega) t.val t rfl d, fresh0_9 t.val ht h, after0_9]
  rw [if_neg Bool.false_ne_true]
  congr 1; dsimp only; omega
/-- `dgamma` as the run leaves it at the last point of a row block, over what it found. -/
theorem dg_step (c : Dev nD) (t : Fin cfg0.N) (h15 : t.val % 16 = 15) (d) :
    dgBlk (BitVec.ofNat 32 (grid0.coords t 0).val) (iblk0 V c 0 t) (iblk0 V c 1 t) (iblk0 V c 2 t) ((dat0 V c).before 9 t d) (dxhatRow V c (t.val / 16))
      = dgAcc V c ((t.val + 1) / 16) := by
  have ht : t.val < 768 := Nat.lt_of_lt_of_eq t.isLt N_0
  have e0 : (grid0.coords t 0).val = t.val / 16 := by rw [coords0_0 t]; omega
  rw [show (t.val + 1) / 16 = t.val / 16 + 1 by omega]
  unfold dgAcc
  rw [pt0_val t (16 * (t.val / 16) + 15) (by omega), e0]
  by_cases h : 15 < t.val
  · rw [before0_9 V c t h15 h d]
  · rw [show t.val / 16 = 0 by omega]
    exact dgBlk_zero _ _ _ _ _ _

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ (dat0 V c).leavesExact 7 t
    ∗ (dat0 V c).leavesExact 8 t
    ∗ (dat0 V c).leavesExact 9 t)

set_option maxHeartbeats 1600000 in
/-- The body at any point: at the last of its row block it completes the row block's product in the scratch and
    stores the outputs; at any other it adds its tile to the scratch and leaves the outputs' buffers as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6]
  rw [show (dat0 V c).Φ t.castSucc = Phi0 V c t.val from rfl, show (dat0 V c).Φ t.succ = Phi0 V c (t.val + 1) from rfl]
  have ht : t.val < 768 := Nat.lt_of_lt_of_eq t.isLt N_0
  unfold Phi0
  by_cases h15 : t.val % 16 = 15
  · rw [show (dat0 V c).leavesExact 7 t = owns (c : Thread nD τ) (ms0_7 t) fullShare ((dat0 V c).after 7 t) from by
      unfold Dat.leavesExact; rw [liveAt0_7 t h15]]
    rw [show (dat0 V c).leavesExact 8 t = owns (c : Thread nD τ) (ms0_8 t) fullShare ((dat0 V c).after 8 t) from by
      unfold Dat.leavesExact; rw [liveAt0_8 t h15]]
    rw [show (dat0 V c).leavesExact 9 t = owns (c : Thread nD τ) (ms0_9 t) fullShare ((dat0 V c).after 9 t) from by
      unfold Dat.leavesExact; rw [liveAt0_9 t h15]]
    rw [after0_7, after0_8, after0_9]
    iintro ⟨⟨⟨⟨%s, %hs, HS0⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) ((dat0 V c).before 9 t d9) (dxhatRow V c (t.val / 16))).2.2.2 ((hcond0_0 t).mpr h15) s
      (putTile_last V c t s hs h15) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [HS0]; · iexact HS0
    iintro ⟨H0, H1, H2, H3, H4, H5, H6, ⟨%e7, H7⟩, ⟨%e8, H8⟩, ⟨%e9, H9⟩, HS0⟩
    isplitl [HS0 HR Hg]
    · isplitl [HS0 HR]
      · isplitl [HS0]
        · iexists (dxhatRow V c (t.val / 16)); isplitr; · ipureintro; exact holds0_start V c (t.val + 1) _ (by omega)
          iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; rw [run_dxL]; exact View.read_writes_eq_canon _ _ _ (dxL_cover (iblk0 V c 0 t) (iblk0 V c 1 t) (iblk0 V c 2 t) (iblk0 V c 3 t) (dxhatRow V c (t.val / 16)))
    isplitl [H8]
    · unfold owns; iexists _; isplitr
      swap; · iexact H8
      ipureintro; rw [run_xhtL]; exact View.read_writes_eq_canon _ _ _ (xhtL_cover (iblk0 V c 0 t) (iblk0 V c 1 t) (iblk0 V c 2 t) (iblk0 V c 3 t))
    unfold owns; iexists _; isplitr
    swap; · iexact H9
    ipureintro; rw [run_dgL]; exact (View.read_writes_eq_canon _ _ _ (dgL_cover (BitVec.ofNat 32 (grid0.coords t 0).val) (iblk0 V c 0 t) (iblk0 V c 1 t) (iblk0 V c 2 t) ((dat0 V c).before 9 t d9) (dxhatRow V c (t.val / 16)))).trans (dg_step V c t h15 d9)
  · rw [Dat.leavesExact_idle (dat0 V c) 7 t (idleAt0_7 t h15) (Bool.eq_false_iff.mpr fun h => by have := (flush0_7 _).mp h; omega)]
    rw [Dat.leavesExact_idle (dat0 V c) 8 t (idleAt0_8 t h15) (Bool.eq_false_iff.mpr fun h => by have := (flush0_8 _).mp h; omega)]
    rw [Dat.leavesExact_idle (dat0 V c) 9 t (idleAt0_9 t h15) (Bool.eq_false_iff.mpr fun h => by have := (flush0_9 _).mp h; omega)]
    iintro ⟨⟨⟨⟨%s, %hs, HS0⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernelRun0_A c (grid0.coords t) _ _ _ _ _ _ _ _ _ _ _ _ _ _ _ _ _ _ _ _ _ _ (fun hc => h15 ((hcond0_0 t).mp hc)) (iblk0 V c 0 t) (iblk0 V c 1 t) (iblk0 V c 2 t) (iblk0 V c 3 t) (iblk0 V c 4 t) (iblk0 V c 5 t) (iblk0 V c 6 t) s Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 HR Hg]
    · isplitl [HS0 HR]
      · isplitl [HS0]
        · iexists (putTile (grid0.coords t) s (accAt V c t)); isplitr; · ipureintro; exact holds0_succ V c t s hs h15
          iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Gen

end
-- ==== Proof.Kernel.Region1.lean ====
/- The body of the second pallas_call meets its obligation at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1_dw_matmul` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 3) — by arithmetic of the point. -/
theorem hcond1_0 : ∀ t : Fin cfg1.N, cond1_0 (grid1.coords t) ↔ t.val % 3 = 0 :=
  (fun t => by
    have ht : t.val < 240 := Nat.lt_of_lt_of_eq t.isLt N_1
    have e0 : (grid1.coords t 0).val = t.val / 30 % 8 := Pipeline.Grid.coords_val t 0 (by decide) rfl
    have e1 : (grid1.coords t 1).val = t.val / 3 % 10 := Pipeline.Grid.coords_val t 1 (by decide) rfl
    have e2 : (grid1.coords t 2).val = t.val / 1 % 3 := Pipeline.Grid.coords_val t 2 (by decide) rfl
    simp only [cond1_0, e0, e1, e2]
    word_cmp
   : ∀ t : Fin grid1.N, cond1_0 (grid1.coords t) ↔ t.val % 3 = 0)

/-! ## The kernel body on any staging memrefs: a subtype the run finds -/

/-- One staging buffer of output window 2, through which its contents are stated (`View.read_writes_of_cover`: the
    choice does not matter). -/
abbrev VO1_2 : View sig .tc .vmem S1024x1024 .f32 := (Memref.whole cc1_stg2_0 : Memref sig .tc .vmem S1024x1024 .f32).view
/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first) IN CASE A (`scf.if` 0 taken: points 0, 3, … 237: 80 of 240), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : cond1_0 i)
    (x0 : Vec F S1024x4096 .bf16) (x1 : Vec F S4096x1024 .bf16) :
    { L2 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1_dw_matmul i arg3 harg3 arg4 harg4 arg5 harg5) K } := by
  refine ⟨?_, fun E K => ?run⟩
  case run =>
    simp only [cc1_dw_matmul_eq_skeleton]; unfold cc1_dw_matmul_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case A's pieces for output 2 tile its block (2 stores of `S1024x1024`, checked by the kernel's evaluation: Lib/Ring.lean `Piece.tiledL`, linear in the pieces, through a loop's `@[irreducible]` trip theorem too), so they cover it. -/
theorem cover1_A_2 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : cond1_0 i)
    (x0 : Vec F S1024x4096 .bf16) (x1 : Vec F S4096x1024 .bf16) (y : S1024x1024.Idx) :
    ∃ pc ∈ (kernelRun1_A c i arg3 harg3 arg4 harg4 arg5 harg5 hc0 x0 x1).1, y ∈ pc.1.set :=
  View.cover_of_tiledL (kernelRun1_A c i arg3 harg3 arg4 harg4 arg5 harg5 hc0 x0 x1).1 S1024x1024.size (by sl_kernel_rfl) y

/-- What case A leaves in output 2's staging buffer: its pieces read back over junk. -/
def out1_A_2 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : cond1_0 i)
    (x0 : Vec F S1024x4096 .bf16) (x1 : Vec F S4096x1024 .bf16) : Vec F S1024x1024 .f32 :=
  VO1_2.read (Elt F) (VO1_2.writes (Elt F) VO1_2.junk (kernelRun1_A c i arg3 harg3 arg4 harg4 arg5 harg5 hc0 x0 x1).1)

-- (the run's proof term is large: the definition's epilogue — `abstractNestedProofs` — walks it past the default budget)
set_option maxHeartbeats 1000000 in
/-- What the body's stores leave in each output's staging memref, as pieces (last first) IN CASE B (`scf.if` 0 not taken: points 1, 2, … 239: 160 of 240), WITH the
    proof that on whole staging memrefs — the inputs' at their contents, the outputs it reads before covering (2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : ¬cond1_0 i)
    (x0 : Vec F S1024x4096 .bf16) (x1 : Vec F S4096x1024 .bf16) (xo2 : Vec F S1024x1024 .f32) :
    { L2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1_dw_matmul i arg3 harg3 arg4 harg4 arg5 harg5) K } := by
  refine ⟨?_, fun E K => ?run⟩
  case run =>
    simp only [cc1_dw_matmul_eq_skeleton]; unfold cc1_dw_matmul_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case B's pieces for output 2 tile its block (1 store of `S1024x1024`, checked by the kernel's evaluation: Lib/Ring.lean `Piece.tiledL`, linear in the pieces, through a loop's `@[irreducible]` trip theorem too), so they cover it. -/
theorem cover1_B_2 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : ¬cond1_0 i)
    (x0 : Vec F S1024x4096 .bf16) (x1 : Vec F S4096x1024 .bf16) (xo2 : Vec F S1024x1024 .f32) (y : S1024x1024.Idx) :
    ∃ pc ∈ (kernelRun1_B c i arg3 harg3 arg4 harg4 arg5 harg5 hc0 x0 x1 xo2).1, y ∈ pc.1.set :=
  View.cover_of_tiledL (kernelRun1_B c i arg3 harg3 arg4 harg4 arg5 harg5 hc0 x0 x1 xo2).1 S1024x1024.size (by sl_kernel_rfl) y

/-- What case B leaves in output 2's staging buffer: its pieces read back over junk. -/
def out1_B_2 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : ¬cond1_0 i)
    (x0 : Vec F S1024x4096 .bf16) (x1 : Vec F S4096x1024 .bf16) (xo2 : Vec F S1024x1024 .f32) : Vec F S1024x1024 .f32 :=
  VO1_2.read (Elt F) (VO1_2.writes (Elt F) VO1_2.junk (kernelRun1_B c i arg3 harg3 arg4 harg4 arg5 harg5 hc0 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 3 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point of case A: that case's contents. -/
theorem outsAt1_A (c : Dev nD) (t : Fin cfg1.N) (h0 : t.val % 3 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 3 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point of case B output 2's current staging buffer holds what the body left at the point before: the point is
    not the first, the buffer was not written back between (`flush1_2`), the window is live and uncut (Lib/Pipeline/Frame.lean
    `Dat.before_out_kept`). -/
theorem before1_2_B (c : Dev nD) (t : Fin cfg1.N) (h0 : ¬t.val % 3 = 0) (d) :
    (dat1 V c).before 2 t d = (outsAt1 V c (t.val - 1) (Nat.lt_of_le_of_lt (Nat.sub_le _ _) t.isLt)) := by
  have hN : t.val < 240 := lt_of_lt_of_eq t.isLt (show cfg1.N = 240 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 240 := lt_of_lt_of_eq t.isLt (show cfg1.N = 240 from N_1)
  by_cases h0 : t.val % 3 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Gen

end
-- ==== Proof.Kernel.Run.lean ====
/- @main from launch to return: its segments, its frame and where its results stand. -/
module

public import proofs.«01_k».proof.Proof.Kernel.Region0
public import proofs.«01_k».proof.Proof.Kernel.Region1
public import Idealize.ShloMosaic.Lib.Pipeline.RegionsLoop

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the library's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the library's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V1 m ρ) c 0 from rfl]
    iintro ⟨Hp, -, Hr⟩
    iapply (Phi0_in (V1 m ρ) c)
    unfold Pipeline.ΦA
    isplitl [Hr]; · iexact Hr
    iexact Hp
  hout c := by
    rw [Pipeline.ownSems0_none, show (pdats m ρ 0 c).Φ (Fin.last _) = Phi0 (V1 m ρ) c (Fin.last cfg0.N).val from rfl]
    iintro H
    ihave H := (Phi0_out (V1 m ρ) c _) $$ H
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- At the compiled mesh, from any memory with zero counters, every weakly fair execution of @main terminates, nothing
    faulting, and ends with every unscoped buffer at the last boundary's contents `W4` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame claim at any `F`: @main terminates with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c)⟩, h.2⟩) (run_all m ρ)

/-- @main's results are what the last boundary's contents say, and the argument arrays end unchanged. -/
theorem results : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_v7) = W4 m ρ c (Proc.devRef .tc main_v7)
      ∧ r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h.1 c _ (mem_uc main_v8 (by decide)), h.1 c _ (mem_uc main_v7 (by decide)), h.1 c _ (mem_uc main_v9 (by decide)),
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c)⟩) (run_all m ρ)

end Cert.Kernel.Gen

end
-- ==== Proof.KernelIdeal.Blocks.lean ====
/- The first pallas_call: the windows' blocks, the staging memrefs, the branch condition. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs -/

/-- One staging buffer of output window 7, through which its contents are stated (`View.read_writes_of_cover`: the
    choice does not matter). -/
abbrev VO0_7 : View sig .tc .vmem S256x8192 .bf16 := (Memref.whole cc0_stg7_0 : Memref sig .tc .vmem S256x8192 .bf16).view
/-- One staging buffer of output window 8, through which its contents are stated (`View.read_writes_of_cover`: the
    choice does not matter). -/
abbrev VO0_8 : View sig .tc .vmem S8192x256 .bf16 := (Memref.whole cc0_stg8_0 : Memref sig .tc .vmem S8192x256 .bf16).view
/-- One staging buffer of output window 9, through which its contents are stated (`View.read_writes_of_cover`: the
    choice does not matter). -/
abbrev VO0_9 : View sig .tc .vmem S1x8192 .f32 := (Memref.whole cc0_stg9_0 : Memref sig .tc .vmem S1x8192 .f32).view
/-- Each window's current staging memref at point `t`, spelled as the pipeline passes it (`bodyAt0`), and its wholeness. -/
abbrev ms0_0 (t : Fin cfg0.N) : Memref sig .tc .vmem S256x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x10240 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x10240 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x10240 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8192x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8192 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S256x8192 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0_0, owns_whole]; try rfl

/-! ## The body's branch condition and where the outputs are idle -/

/-- The condition of the body's `if`: the last point of a row block. -/
abbrev cond0_0 (i : grid0.Coords) : Prop := k0_cond1 i = 1#1
/-- The coordinates of a point: its row block and its column block. -/
theorem coords0_0 (t : Fin grid0.N) : (grid0.coords t 0).val = t.val / 16 % 48 := Pipeline.Grid.coords_val t 0 (by decide) rfl
theorem coords0_1 (t : Fin grid0.N) : (grid0.coords t 1).val = t.val / 1 % 16 := Pipeline.Grid.coords_val t 1 (by decide) rfl
/-- It holds at the points ≡ 15 (mod 16). -/
theorem hcond0_0 : ∀ t : Fin cfg0.N, cond0_0 (grid0.coords t) ↔ t.val % 16 = 15 :=
  (fun t => by
    have ht : t.val < 768 := Nat.lt_of_lt_of_eq t.isLt N_0
    have e0 := coords0_0 t
    have e1 := coords0_1 t
    simp only [cond0_0, k0_cond1, e0, e1]
    word_cmp
   : ∀ t : Fin grid0.N, cond0_0 (grid0.coords t) ↔ t.val % 16 = 15)
/-- Away from the last point of a row block the output windows are idle; -/
theorem idleAt0_7 (t : Fin cfg0.N) (h : ¬t.val % 16 = 15) : cfg0.idle 7 (grid0.coords t) = true := by
  have hc : ¬cond0_0 (grid0.coords t) := fun hc => h ((hcond0_0 t).mp hc)
  show (!(k0_cond1 (grid0.coords t) == 1#1)) = true
  simpa using hc
theorem idleAt0_8 (t : Fin cfg0.N) (h : ¬t.val % 16 = 15) : cfg0.idle 8 (grid0.coords t) = true := idleAt0_7 t h
theorem idleAt0_9 (t : Fin cfg0.N) (h : ¬t.val % 16 = 15) : cfg0.idle 9 (grid0.coords t) = true := idleAt0_7 t h
/-- at it they are live. -/
theorem liveAt0_7 (t : Fin cfg0.N) (h : t.val % 16 = 15) : cfg0.idle 7 (grid0.coords t) = false := by
  have hc : cond0_0 (grid0.coords t) := (hcond0_0 t).mpr h
  show (!(k0_cond1 (grid0.coords t) == 1#1)) = false
  simpa using hc
theorem liveAt0_8 (t : Fin cfg0.N) (h : t.val % 16 = 15) : cfg0.idle 8 (grid0.coords t) = false := liveAt0_7 t h
theorem liveAt0_9 (t : Fin cfg0.N) (h : t.val % 16 = 15) : cfg0.idle 9 (grid0.coords t) = false := liveAt0_7 t h

end Cert.KernelIdeal.Gen

end
-- ==== Proof.KernelIdeal.Acc.lean ====
/- The tile a point of the first pallas_call computes, and the scratch after its store. -/
module

public import proofs.«01_k».proof.Proof.KernelIdeal.Blocks
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through a whole memref holding `X` reads `X` at the load's rectangle. -/
theorem ldU {sp : Space} {s : Shape} {e : EltTy} {m : Memref sig .tc sp s e} (h : m.IsWhole) (X : Vec F s e) (B : Rect s) :
    View.readAt (Elt F) m.view B.toLoadRect (h.unread X) = View.ld (Val := Elt F) X B := funext (h.readAt_unread X _)

/-- The tile of `dqkv · wᵀ` a point computes from its three blocks, ten columns chunks of 1024 added from zero. -/
def accOf (x4 : Vec F S512x10240 .fp8e4m3) (x5 : Vec F S1x10240 .f32) (x6 : Vec F S256x10240 .bf16) : Vec F S256x512 .f32 :=
  k0_pay1
    (k0_pay105
      (k0_pay102
      (k0_pay101
      (View.ld (Val := Elt F) x4 (Rect.unit ![0, 0] S512x1024.size inb_S512x10240_S512x1024_0_0)) (View.ld (Val := Elt F) x5 (Rect.unit ![0, 0] S1x1024.size inb_S1x10240_S1x1024_0_0))
      (View.ld (Val := Elt F) x6 (Rect.unit ![0, 0] S256x1024.size inb_S256x10240_S256x1024_0_0))
      (View.ld (Val := Elt F) x4 (Rect.unit ![0, 1024] S512x1024.size inb_S512x10240_S512x1024_0_1024)) (View.ld (Val := Elt F) x5 (Rect.unit ![0, 1024] S1x1024.size inb_S1x10240_S1x1024_0_1024))
      (View.ld (Val := Elt F) x6 (Rect.unit ![0, 1024] S256x1024.size inb_S256x10240_S256x1024_0_1024))
      (View.ld (Val := Elt F) x4 (Rect.unit ![0, 2048] S512x1024.size inb_S512x10240_S512x1024_0_2048)) (View.ld (Val := Elt F) x5 (Rect.unit ![0, 2048] S1x1024.size inb_S1x10240_S1x1024_0_2048))
      (View.ld (Val := Elt F) x6 (Rect.unit ![0, 2048] S256x1024.size inb_S256x10240_S256x1024_0_2048)))
      (View.ld (Val := Elt F) x4 (Rect.unit ![0, 3072] S512x1024.size inb_S512x10240_S512x1024_0_3072)) (View.ld (Val := Elt F) x5 (Rect.unit ![0, 3072] S1x1024.size inb_S1x10240_S1x1024_0_3072))
      (View.ld (Val := Elt F) x6 (Rect.unit ![0, 3072] S256x1024.size inb_S256x10240_S256x1024_0_3072))
      (View.ld (Val := Elt F) x4 (Rect.unit ![0, 4096] S512x1024.size inb_S512x10240_S512x1024_0_4096)) (View.ld (Val := Elt F) x5 (Rect.unit ![0, 4096] S1x1024.size inb_S1x10240_S1x1024_0_4096))
      (View.ld (Val := Elt F) x6 (Rect.unit ![0, 4096] S256x1024.size inb_S256x10240_S256x1024_0_4096))
      (View.ld (Val := Elt F) x4 (Rect.unit ![0, 5120] S512x1024.size inb_S512x10240_S512x1024_0_5120)) (View.ld (Val := Elt F) x5 (Rect.unit ![0, 5120] S1x1024.size inb_S1x10240_S1x1024_0_5120))
      (View.ld (Val := Elt F) x6 (Rect.unit ![0, 5120] S256x1024.size inb_S256x10240_S256x1024_0_5120)))
      (k0_pay103 (View.ld (Val := Elt F) x4 (Rect.unit ![0, 6144] S512x1024.size inb_S512x10240_S512x1024_0_6144))) (k0_pay104 (View.ld (Val := Elt F) x5 (Rect.unit ![0, 6144] S1x1024.size inb_S1x10240_S1x1024_0_6144)))
      (View.ld (Val := Elt F) x6 (Rect.unit ![0, 6144] S256x1024.size inb_S256x10240_S256x1024_0_6144))
      (View.ld (Val := Elt F) x4 (Rect.unit ![0, 7168] S512x1024.size inb_S512x10240_S512x1024_0_7168)) (View.ld (Val := Elt F) x5 (Rect.unit ![0, 7168] S1x1024.size inb_S1x10240_S1x1024_0_7168))
      (View.ld (Val := Elt F) x6 (Rect.unit ![0, 7168] S256x1024.size inb_S256x10240_S256x1024_0_7168))
      (View.ld (Val := Elt F) x4 (Rect.unit ![0, 8192] S512x1024.size inb_S512x10240_S512x1024_0_8192)) (View.ld (Val := Elt F) x5 (Rect.unit ![0, 8192] S1x1024.size inb_S1x10240_S1x1024_0_8192))
      (View.ld (Val := Elt F) x6 (Rect.unit ![0, 8192] S256x1024.size inb_S256x10240_S256x1024_0_8192)))
    (k0_pay106 (View.ld (Val := Elt F) x4 (Rect.unit ![0, 9216] S512x1024.size inb_S512x10240_S512x1024_0_9216)) (View.ld (Val := Elt F) x5 (Rect.unit ![0, 9216] S1x1024.size inb_S1x10240_S1x1024_0_9216)))
    (View.ld (Val := Elt F) x6 (Rect.unit ![0, 9216] S256x1024.size inb_S256x10240_S256x1024_0_9216))

/-- The scratch `s` with the tile of a point stored at the point's columns. -/
def putTile (i : grid0.Coords) (s : Vec F S256x8192 .f32) (a : Vec F S256x512 .f32) : Vec F S256x8192 .f32 :=
  VecWindow.put s (k0_off1 i) S256x512.size a

/-- A whole memref holding `s`, the tile stored into it, holds `putTile`. -/
theorem writes_tile {m : Memref sig .tc .vmem S256x8192 .f32} (h : m.IsWhole) (i : grid0.Coords) (s : Vec F S256x8192 .f32)
    (a : Vec F S256x512 .f32) :
    m.view.writes (Elt F) (h.unread s) [⟨Rect.unit (s := S256x8192) (k0_off1 i) S256x512.size (k0_off1_inb i), a⟩]
      = h.unread (putTile i s a) := by
  apply h.eq_unread
  rw [View.read_writes_cons_put _ _ _ _ _ rfl, View.writes_nil, h.read_unread]
  rfl

/-- The same with the contents after the store named `sf`. -/
theorem writes_tile_to {m : Memref sig .tc .vmem S256x8192 .f32} (h : m.IsWhole) (i : grid0.Coords) (s sf : Vec F S256x8192 .f32)
    (a : Vec F S256x512 .f32) (ha : putTile i s a = sf) :
    m.view.writes (Elt F) (h.unread s) [⟨Rect.unit (s := S256x8192) (k0_off1 i) S256x512.size (k0_off1_inb i), a⟩]
      = h.unread sf := by
  rw [writes_tile, ha]

end Cert.KernelIdeal.Gen

end
-- ==== Proof.KernelIdeal.RunA.lean ====
/- The body of the first pallas_call, run at a point that is not the last of its row block. -/
module

public import proofs.«01_k».proof.Proof.KernelIdeal.Acc
public import Idealize.ShloMosaic.Lib.WholeRead
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1600000 in
/-- What the body does at a point that is not the last of its row block: on whole staging memrefs — the inputs'
    at their contents, the scratch at `s` — it runs to the continuation holding the inputs' as they were and the
    scratch at `s` with the point's tile stored. The outputs are not touched. -/
theorem kernelRun0_A (c : Dev nD) (i : grid0.Coords) (arg2 : Memref sig .tc .vmem S256x8192 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S1x8192 .f32) (harg5 : arg5.IsWhole) (arg6 : Memref sig .tc .vmem S512x10240 .fp8e4m3) (harg6 : arg6.IsWhole) (arg7 : Memref sig .tc .vmem S1x10240 .f32) (harg7 : arg7.IsWhole) (arg8 : Memref sig .tc .vmem S256x10240 .bf16) (harg8 : arg8.IsWhole) (arg9 : Memref sig .tc .vmem S256x8192 .bf16) (harg9 : arg9.IsWhole) (arg10 : Memref sig .tc .vmem S8192x256 .bf16) (harg10 : arg10.IsWhole) (arg11 : Memref sig .tc .vmem S1x8192 .f32) (harg11 : arg11.IsWhole) (arg12 : Memref sig .tc .vmem S256x8192 .f32) (harg12 : arg12.IsWhole) (hc0 : ¬cond0_0 i)
    (x0 : Vec F S256x8192 .fp8e4m3) (x1 : Vec F S256x1 .f32) (x2 : Vec F S256x1 .f32) (x3 : Vec F S1x8192 .f32) (x4 : Vec F S512x10240 .fp8e4m3) (x5 : Vec F S1x10240 .f32) (x6 : Vec F S256x10240 .bf16) (s : Vec F S256x8192 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg12 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg12 fullShare (putTile i s (accOf x4 x5 x6))) -∗ K ⟨⟩))
          ⊢ wp frame (wpE (defs₀ (F := F)) Variants.none c none) E (cc0_dx_rmsnorm_bwd i arg2 harg2 arg3 harg3 arg4 harg4 arg5 harg5 arg6 harg6 arg7 harg7 arg8 harg8 arg9 harg9 arg10 harg10 arg11 harg11 arg12 harg12) K := by
    simp only [cc0_dx_rmsnorm_bwd_eq_skeleton]; unfold cc0_dx_rmsnorm_bwd_skel
    simp only [k0_part25_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    sl_unfold_run_names
    simp only [ldU]
    iexists _; isplitr [HS0]; swap; iexact HS0
    ipureintro
    exact (congrArg _ (writes_tile harg12 i s (accOf x4 x5 x6))).trans (harg12.read_unread _)

end Cert.KernelIdeal.Gen

end
-- ==== Proof.KernelIdeal.RunB.lean ====
/- The body of the first pallas_call, run at the last point of a row block. -/
module

public import proofs.«01_k».proof.Proof.KernelIdeal.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body stores at the last point of a row block, as pieces (last first) — into `dx` (window 7), the
    transposed normalised rows (window 8) and `dgamma` (window 9) —, WITH the proof that on whole staging memrefs
    — the inputs' at their contents, `dgamma`'s at `xo9`, the scratch at contents that the point's tile completes
    to `sf`, the other outputs' at anything — the body runs to the continuation holding the inputs' as they were,
    the scratch at `sf` and each output overwritten by its pieces. -/
noncomputable def kernelRun0_B (c : Dev nD) (i : grid0.Coords) (arg2 : Memref sig .tc .vmem S256x8192 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S1x8192 .f32) (harg5 : arg5.IsWhole) (arg6 : Memref sig .tc .vmem S512x10240 .fp8e4m3) (harg6 : arg6.IsWhole) (arg7 : Memref sig .tc .vmem S1x10240 .f32) (harg7 : arg7.IsWhole) (arg8 : Memref sig .tc .vmem S256x10240 .bf16) (harg8 : arg8.IsWhole) (arg9 : Memref sig .tc .vmem S256x8192 .bf16) (harg9 : arg9.IsWhole) (arg10 : Memref sig .tc .vmem S8192x256 .bf16) (harg10 : arg10.IsWhole) (arg11 : Memref sig .tc .vmem S1x8192 .f32) (harg11 : arg11.IsWhole) (arg12 : Memref sig .tc .vmem S256x8192 .f32) (harg12 : arg12.IsWhole)
    (x0 : Vec F S256x8192 .fp8e4m3) (x1 : Vec F S256x1 .f32) (x2 : Vec F S256x1 .f32) (x3 : Vec F S1x8192 .f32) (x4 : Vec F S512x10240 .fp8e4m3) (x5 : Vec F S1x10240 .f32) (x6 : Vec F S256x10240 .bf16) (xo9 : Vec F S1x8192 .f32) (sf : Vec F S256x8192 .f32) :
    Σ' (L7 : List (View.Piece (Elt F) S256x8192 .bf16)) (L8 : List (View.Piece (Elt F) S8192x256 .bf16)),
    { L9 : List (View.Piece (Elt F) S1x8192 .f32) //
      ∀ (hc0 : cond0_0 i) (s : Vec F S256x8192 .f32) (hsf : putTile i s (accOf x4 x5 x6) = sf) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xo9 ∗ owns (c : Thread nD τ) arg12 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare sf) -∗ K ⟨⟩))
          ⊢ wp frame (wpE (defs₀ (F := F)) Variants.none c none) E (cc0_dx_rmsnorm_bwd i arg2 harg2 arg3 harg3 arg4 harg4 arg5 harg5 arg6 harg6 arg7 harg7 arg8 harg8 arg9 harg9 arg10 harg10 arg11 harg11 arg12 harg12) K } := by
  refine ⟨?_, ?_, ?_, fun hc0 s hsf E K => ?run⟩
  case run =>
    simp only [cc0_dx_rmsnorm_bwd_eq_skeleton]; unfold cc0_dx_rmsnorm_bwd_skel
    simp only [k0_part25_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hfs
    set_option sl_exec.stopBefore "k0_cond1" in
      sl_exec (disch := first | sl_exact hc0)
    rw [writes_tile_to harg12 i s sf _ ?hsf]
    case hsf =>
      sl_unfold_run_names
      simp only [ldU]
      exact hsf
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [H9]
    · iexists _; iexact H9
    iexists _; isplitr; · ipureintro; exact harg12.read_unread _
    iexact HS0

end Cert.KernelIdeal.Gen

end
-- ==== Proof.KernelIdeal.Tiles.lean ====
/- The tiles the last point of a row block stores, uniformly in the slice of 512 columns. -/
module

public import proofs.«01_k».proof.Proof.KernelIdeal.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The slices of 512 columns -/

theorem rowInb (k : Fin 16) : ∀ a, (![0, 512 * k.val] : Fin 2 → ℕ) a + S256x512.size a ≤ S256x8192.size a := by
  intro a; have := k.isLt; fin_cases a
  · exact Nat.le_refl 256
  · show 512 * k.val + 512 ≤ 8192; omega
theorem vecInb (k : Fin 16) : ∀ a, (![0, 512 * k.val] : Fin 2 → ℕ) a + S1x512.size a ≤ S1x8192.size a := by
  intro a; have := k.isLt; fin_cases a
  · exact Nat.le_refl 1
  · show 512 * k.val + 512 ≤ 8192; omega
theorem colInb (k : Fin 16) : ∀ a, (![512 * k.val, 0] : Fin 2 → ℕ) a + S512x256.size a ≤ S8192x256.size a := by
  intro a; have := k.isLt; fin_cases a
  · show 512 * k.val + 512 ≤ 8192; omega
  · exact Nat.le_refl 256
/-- The columns `512 k …` of a block of 256 rows. -/
abbrev rowRect (k : Fin 16) : Rect S256x8192 := Rect.unit (s := S256x8192) ![0, 512 * k.val] S256x512.size (rowInb k)
/-- The columns `512 k …` of a row vector. -/
abbrev vecRect (k : Fin 16) : Rect S1x8192 := Rect.unit (s := S1x8192) ![0, 512 * k.val] S1x512.size (vecInb k)
/-- The rows `512 k …` of a transposed block. -/
abbrev colRect (k : Fin 16) : Rect S8192x256 := Rect.unit (s := S8192x256) ![512 * k.val, 0] S512x256.size (colInb k)
/-- A block of 256 rows, its slice `k`. -/
def rowSl {e : EltTy} (x : Vec F S256x8192 e) (k : Fin 16) : Vec F S256x512 e := View.ld (Val := Elt F) x (rowRect k)
/-- A row vector, its slice `k`. -/
def vecSl {e : EltTy} (x : Vec F S1x8192 e) (k : Fin 16) : Vec F S1x512 e := View.ld (Val := Elt F) x (vecRect k)

/-! ## The tiles the last point of a row block stores, uniformly in the slice -/

/-- The transposed normalised rows, slice `k`. -/
def xhtT (x0 : Vec F S256x8192 .fp8e4m3) (x1 x2 : Vec F S256x1 .f32) (x3 : Vec F S1x8192 .f32) (k : Fin 16) : Vec F S512x256 .bf16 :=
  k0_pay7 x1 x2 (rowSl x0 k) (vecSl x3 k)
/-- `dgamma`, slice `k`: this row block's contribution, added to `old` except at row block 0. -/
def dgT (b : BitVec 32) (x0 : Vec F S256x8192 .fp8e4m3) (x1 x2 : Vec F S256x1 .f32) (old : Vec F S1x8192 .f32) (sf : Vec F S256x8192 .f32)
    (k : Fin 16) : Vec F S1x512 .f32 :=
  k0_pay8 b x1 x2 (rowSl x0 k) (rowSl sf k) (vecSl old k)
/-- The row sums of `dxhat * gamma * n` over the first `m` slices. -/
def projN (x0 : Vec F S256x8192 .fp8e4m3) (x1 x2 : Vec F S256x1 .f32) (x3 : Vec F S1x8192 .f32) (sf : Vec F S256x8192 .f32) :
    (m : ℕ) → m ≤ 16 → Vec F S256x1 .f32
  | 0, _ => k0_pay5
  | m + 1, h => k0_pay17 (k0_pay3 x1) (k0_pay4 x2) (projN x0 x1 x2 x3 sf m (Nat.le_of_succ_le h)) (rowSl x0 ⟨m, h⟩) (rowSl sf ⟨m, h⟩) (vecSl x3 ⟨m, h⟩)
/-- The row means of `dxhat * gamma * n`: the sums over all slices, times `1 / 8192`. -/
def projOf (x0 : Vec F S256x8192 .fp8e4m3) (x1 x2 : Vec F S256x1 .f32) (x3 : Vec F S1x8192 .f32) (sf : Vec F S256x8192 .f32) : Vec F S256x1 .f32 :=
  k0_pay77 (projN x0 x1 x2 x3 sf 15 (by omega)) (k0_pay6 x1 x2 (rowSl x0 15)) (rowSl sf 15) (vecSl x3 15)
/-- `dx`, slice `k`. -/
def dxT (x0 : Vec F S256x8192 .fp8e4m3) (x1 x2 : Vec F S256x1 .f32) (x3 : Vec F S1x8192 .f32) (sf : Vec F S256x8192 .f32) (k : Fin 16) :
    Vec F S256x512 .bf16 :=
  k0_pay80 (k0_pay3 x1) (k0_pay4 x2) (projOf x0 x1 x2 x3 sf) (rowSl x0 k) (rowSl sf k) (vecSl x3 k)

/-- The pieces stored into `dx`, last first. -/
def dxL (x0 : Vec F S256x8192 .fp8e4m3) (x1 x2 : Vec F S256x1 .f32) (x3 : Vec F S1x8192 .f32) (sf : Vec F S256x8192 .f32) :
    List (View.Piece (Elt F) S256x8192 .bf16) :=
  List.ofFn fun k : Fin 16 => ⟨rowRect k.rev, dxT x0 x1 x2 x3 sf k.rev⟩
/-- The pieces stored into the transposed normalised rows, last first. -/
def xhtL (x0 : Vec F S256x8192 .fp8e4m3) (x1 x2 : Vec F S256x1 .f32) (x3 : Vec F S1x8192 .f32) : List (View.Piece (Elt F) S8192x256 .bf16) :=
  List.ofFn fun k : Fin 16 => ⟨colRect k.rev, xhtT x0 x1 x2 x3 k.rev⟩
/-- The pieces stored into `dgamma`, last first. -/
def dgL (b : BitVec 32) (x0 : Vec F S256x8192 .fp8e4m3) (x1 x2 : Vec F S256x1 .f32) (old : Vec F S1x8192 .f32) (sf : Vec F S256x8192 .f32) :
    List (View.Piece (Elt F) S1x8192 .f32) :=
  List.ofFn fun k : Fin 16 => ⟨vecRect k.rev, dgT b x0 x1 x2 old sf k.rev⟩

/-- A load of a whole column vector reads it. -/
theorem ldCol (x : Vec F S256x1 .f32) (inb) : View.ld (Val := Elt F) x (Rect.unit (s := S256x1) ![0, 0] ![256, 1] inb) = x :=
  View.ld_unit_zero (by funext a; fin_cases a <;> rfl) inb x

section
variable (c : Dev nD) (i : grid0.Coords) (arg2 : Memref sig .tc .vmem S256x8192 .fp8e4m3) (harg2 : arg2.IsWhole) (arg3 : Memref sig .tc .vmem S256x1 .f32) (harg3 : arg3.IsWhole) (arg4 : Memref sig .tc .vmem S256x1 .f32) (harg4 : arg4.IsWhole) (arg5 : Memref sig .tc .vmem S1x8192 .f32) (harg5 : arg5.IsWhole) (arg6 : Memref sig .tc .vmem S512x10240 .fp8e4m3) (harg6 : arg6.IsWhole) (arg7 : Memref sig .tc .vmem S1x10240 .f32) (harg7 : arg7.IsWhole) (arg8 : Memref sig .tc .vmem S256x10240 .bf16) (harg8 : arg8.IsWhole) (arg9 : Memref sig .tc .vmem S256x8192 .bf16) (harg9 : arg9.IsWhole) (arg10 : Memref sig .tc .vmem S8192x256 .bf16) (harg10 : arg10.IsWhole) (arg11 : Memref sig .tc .vmem S1x8192 .f32) (harg11 : arg11.IsWhole) (arg12 : Memref sig .tc .vmem S256x8192 .f32) (harg12 : arg12.IsWhole)
    (x0 : Vec F S256x8192 .fp8e4m3) (x1 : Vec F S256x1 .f32) (x2 : Vec F S256x1 .f32) (x3 : Vec F S1x8192 .f32) (x4 : Vec F S512x10240 .fp8e4m3) (x5 : Vec F S1x10240 .f32) (x6 : Vec F S256x10240 .bf16) (xo9 : Vec F S1x8192 .f32) (sf : Vec F S256x8192 .f32)

set_option maxHeartbeats 4000000 in
/-- The run's pieces for `dgamma` are these. -/
theorem run_dgL : (kernelRun0_B c i arg2 harg2 arg3 harg3 arg4 harg4 arg5 harg5 arg6 harg6 arg7 harg7 arg8 harg8 arg9 harg9 arg10 harg10 arg11 harg11 arg12 harg12 x0 x1 x2 x3 x4 x5 x6 xo9 sf).2.2.1 = dgL (BitVec.ofNat 32 (i 0).val) x0 x1 x2 xo9 sf := by
  unfold kernelRun0_B
  sl_unfold_run_names
  simp only [ldU, ldCol]
  rfl
set_option maxHeartbeats 4000000 in
/-- The run's pieces for the transposed normalised rows are these. -/
theorem run_xhtL : (kernelRun0_B c i arg2 harg2 arg3 harg3 arg4 harg4 arg5 harg5 arg6 harg6 arg7 harg7 arg8 harg8 arg9 harg9 arg10 harg10 arg11 harg11 arg12 harg12 x0 x1 x2 x3 x4 x5 x6 xo9 sf).2.1 = xhtL x0 x1 x2 x3 := by
  unfold kernelRun0_B
  sl_unfold_run_names
  simp only [ldU, ldCol]
  rfl
set_option maxHeartbeats 4000000 in
/-- The run's pieces for `dx` are these. -/
theorem run_dxL : (kernelRun0_B c i arg2 harg2 arg3 harg3 arg4 harg4 arg5 harg5 arg6 harg6 arg7 harg7 arg8 harg8 arg9 harg9 arg10 harg10 arg11 harg11 arg12 harg12 x0 x1 x2 x3 x4 x5 x6 xo9 sf).1 = dxL x0 x1 x2 x3 sf := by
  unfold kernelRun0_B
  sl_unfold_run_names
  simp only [ldU, ldCol]
  rfl
end

end Cert.KernelIdeal.Gen

end
-- ==== Proof.KernelIdeal.Outs.lean ====
/- What the first pallas_call leaves at each point. -/
module

public import proofs.«01_k».proof.Proof.KernelIdeal.Tiles
public import Idealize.ShloMosaic.Lib.Pointwise.Index
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces cover their blocks, and what they leave -/

theorem mem_rowRect (k : Fin 16) (y : S256x8192.Idx) (h1 : 512 * k.val ≤ (y 1).val) (h2 : (y 1).val < 512 * k.val + 512) : y ∈ (rowRect k).set := by
  have h0 : (y 0).val < 256 := (y 0).isLt
  rw [Rect.mem_set_unit]
  intro a; fin_cases a
  · exact ⟨Nat.zero_le _, by show (y 0).val < 0 + 256; omega⟩
  · exact ⟨h1, h2⟩
theorem mem_vecRect (k : Fin 16) (y : S1x8192.Idx) (h1 : 512 * k.val ≤ (y 1).val) (h2 : (y 1).val < 512 * k.val + 512) : y ∈ (vecRect k).set := by
  have h0 : (y 0).val < 1 := (y 0).isLt
  rw [Rect.mem_set_unit]
  intro a; fin_cases a
  · exact ⟨Nat.zero_le _, by show (y 0).val < 0 + 1; omega⟩
  · exact ⟨h1, h2⟩
theorem mem_colRect (k : Fin 16) (y : S8192x256.Idx) (h1 : 512 * k.val ≤ (y 0).val) (h2 : (y 0).val < 512 * k.val + 512) : y ∈ (colRect k).set := by
  have h0 : (y 1).val < 256 := (y 1).isLt
  rw [Rect.mem_set_unit]
  intro a; fin_cases a
  · exact ⟨h1, h2⟩
  · exact ⟨Nat.zero_le _, by show (y 1).val < 0 + 256; omega⟩
theorem dxL_cover (x0 : Vec F S256x8192 .fp8e4m3) (x1 x2 : Vec F S256x1 .f32) (x3 : Vec F S1x8192 .f32) (sf : Vec F S256x8192 .f32)
    (y : S256x8192.Idx) : ∃ p ∈ dxL x0 x1 x2 x3 sf, y ∈ p.1.set := by
  have h0 : (y 0).val < 256 := (y 0).isLt
  have h1 : (y 1).val < 8192 := (y 1).isLt
  refine ⟨_, List.mem_ofFn.mpr ⟨(⟨(y 1).val / 512, by omega⟩ : Fin 16).rev, rfl⟩, ?_⟩
  rw [Fin.rev_rev]
  exact mem_rowRect _ y (by dsimp only; omega) (by dsimp only; omega)
theorem xhtL_cover (x0 : Vec F S256x8192 .fp8e4m3) (x1 x2 : Vec F S256x1 .f32) (x3 : Vec F S1x8192 .f32)
    (y : S8192x256.Idx) : ∃ p ∈ xhtL x0 x1 x2 x3, y ∈ p.1.set := by
  have h0 : (y 0).val < 8192 := (y 0).isLt
  have h1 : (y 1).val < 256 := (y 1).isLt
  refine ⟨_, List.mem_ofFn.mpr ⟨(⟨(y 0).val / 512, by omega⟩ : Fin 16).rev, rfl⟩, ?_⟩
  rw [Fin.rev_rev]
  exact mem_colRect _ y (by dsimp only; omega) (by dsimp only; omega)
theorem dgL_cover (b : BitVec 32) (x0 : Vec F S256x8192 .fp8e4m3) (x1 x2 : Vec F S256x1 .f32) (old : Vec F S1x8192 .f32) (sf : Vec F S256x8192 .f32)
    (y : S1x8192.Idx) : ∃ p ∈ dgL b x0 x1 x2 old sf, y ∈ p.1.set := by
  have h0 : (y 0).val < 1 := (y 0).isLt
  have h1 : (y 1).val < 8192 := (y 1).isLt
  refine ⟨_, List.mem_ofFn.mpr ⟨(⟨(y 1).val / 512, by omega⟩ : Fin 16).rev, rfl⟩, ?_⟩
  rw [Fin.rev_rev]
  exact mem_vecRect _ y (by dsimp only; omega) (by dsimp only; omega)

/-- The `dx` block of a row block. -/
def dxBlk (x0 : Vec F S256x8192 .fp8e4m3) (x1 x2 : Vec F S256x1 .f32) (x3 : Vec F S1x8192 .f32) (sf : Vec F S256x8192 .f32) : Vec F S256x8192 .bf16 :=
  View.canon (dxL x0 x1 x2 x3 sf)
/-- The block of transposed normalised rows of a row block. -/
def xhtBlk (x0 : Vec F S256x8192 .fp8e4m3) (x1 x2 : Vec F S256x1 .f32) (x3 : Vec F S1x8192 .f32) : Vec F S8192x256 .bf16 :=
  View.canon (xhtL x0 x1 x2 x3)
/-- `dgamma` after row block `b`, over what it held before. -/
def dgBlk (b : BitVec 32) (x0 : Vec F S256x8192 .fp8e4m3) (x1 x2 : Vec F S256x1 .f32) (old : Vec F S1x8192 .f32) (sf : Vec F S256x8192 .f32) :
    Vec F S1x8192 .f32 :=
  View.canon (dgL b x0 x1 x2 old sf)
/-- At row block 0 what `dgamma` held before does not matter. -/
theorem dgBlk_zero (x0 : Vec F S256x8192 .fp8e4m3) (x1 x2 : Vec F S256x1 .f32) (old old' : Vec F S1x8192 .f32) (sf : Vec F S256x8192 .f32) :
    dgBlk 0#32 x0 x1 x2 old sf = dgBlk 0#32 x0 x1 x2 old' sf := by
  have h : ∀ k, dgT 0#32 x0 x1 x2 old sf k = dgT 0#32 x0 x1 x2 old' sf k := fun k => rfl
  unfold dgBlk dgL
  simp only [h]

/-! ## What the scratch and the outputs hold, point by point -/

variable (V : (c : Dev nD) → (b : Ref sig .tc) → Buf (Elt F) ((c : Thread nD τ).loc b))

/-- Point `n` of the grid. -/
def pt0 (n : ℕ) : Fin cfg0.N := ⟨n % 768, Nat.lt_of_lt_of_eq (Nat.mod_lt _ (by decide)) N_0.symm⟩
theorem pt0_val (t : Fin cfg0.N) (n : ℕ) (h : n = t.val) : pt0 n = t := by
  subst h; exact Fin.ext (Nat.mod_eq_of_lt (Nat.lt_of_lt_of_eq t.isLt N_0))
/-- A column of a block, within its tile. -/
def inTile (y : S256x8192.Idx) : S256x512.Idx := ix2 (n0 := 256) (n1 := 512) (y 0) ⟨(y 1).val % 512, Nat.mod_lt _ (by decide)⟩
/-- The tile point `t` computes. -/
def accAt (c : Dev nD) (t : Fin cfg0.N) : Vec F S256x512 .f32 := accOf (iblk0 V c 4 t) (iblk0 V c 5 t) (iblk0 V c 6 t)
/-- `dqkv · wᵀ` at row block `r`, from the tiles of its sixteen points. -/
def dxhatRow (c : Dev nD) (r : ℕ) : Vec F S256x8192 .f32 := fun y => accAt V c (pt0 (16 * r + (y 1).val / 512)) (inTile y)
/-- The scratch before point `n`: the columns of the row block's points before it are in place. -/
def Holds0 (c : Dev nD) (n : ℕ) (s : Vec F S256x8192 .f32) : Prop :=
  ∀ y : S256x8192.Idx, (y 1).val < 512 * (n % 16) → s y = dxhatRow V c (n / 16) y
/-- The scratch with the tile of point `t` stored, at a column of the row block's points up to `t`. -/
theorem putTile_row (c : Dev nD) (t : Fin cfg0.N) (s : Vec F S256x8192 .f32) (h : Holds0 V c t.val s)
    (y : S256x8192.Idx) (hy : (y 1).val < 512 * (t.val % 16) + 512) :
    putTile (grid0.coords t) s (accAt V c t) y = dxhatRow V c (t.val / 16) y := by
  have e1 := coords0_1 t
  have ht : t.val < 768 := Nat.lt_of_lt_of_eq t.isLt N_0
  have h0 : (y 0).val < 256 := (y 0).isLt
  unfold putTile VecWindow.put
  by_cases hc : 512 * (t.val % 16) ≤ (y 1).val
  · have hin : ∀ a : Fin S256x8192.rank, k0_off1 (grid0.coords t) a ≤ (y a).val ∧ (y a).val < k0_off1 (grid0.coords t) a + S256x512.size a := by
      rw [k0_off1_eq, e1, Nat.div_one]
      intro a; fin_cases a
      · exact ⟨Nat.zero_le _, by show (y 0).val < 0 + 256; omega⟩
      · exact ⟨hc, hy⟩
    rw [dif_pos hin]
    unfold dxhatRow
    rw [pt0_val t (16 * (t.val / 16) + (y 1).val / 512) (by omega)]
    refine congrArg _ (funext fun a => Fin.ext ?_)
    rw [Rect.unitLocal_val]
    have ho : k0_off1 (grid0.coords t) = ![0, 512 * (t.val % 16)] := by rw [k0_off1_eq, e1, Nat.div_one]
    rw [ho]
    fin_cases a
    · rfl
    · show (y 1).val - 512 * (t.val % 16) = (y 1).val % 512
      omega
  · rw [dif_neg]
    · exact h y (by omega)
    · intro hin
      have := (hin 1).1
      rw [k0_off1_eq, e1, Nat.div_one] at this
      exact hc this
/-- Before the last point of a row block's successor the next row block starts; before any other the columns are one tile more. -/
theorem holds0_succ (c : Dev nD) (t : Fin cfg0.N) (s : Vec F S256x8192 .f32) (h : Holds0 V c t.val s) (h15 : ¬t.val % 16 = 15) :
    Holds0 V c (t.val + 1) (putTile (grid0.coords t) s (accAt V c t)) := by
  intro y hy
  rw [show (t.val + 1) / 16 = t.val / 16 by omega]
  exact putTile_row V c t s h y (by omega)
theorem holds0_start (c : Dev nD) (n : ℕ) (s : Vec F S256x8192 .f32) (h : n % 16 = 0) : Holds0 V c n s := by
  intro y hy; rw [h] at hy; omega
/-- At the last point of a row block the scratch, completed by the point's tile, is the row block's product. -/
theorem putTile_last (c : Dev nD) (t : Fin cfg0.N) (s : Vec F S256x8192 .f32) (h : Holds0 V c t.val s) (h15 : t.val % 16 = 15) :
    putTile (grid0.coords t) s (accAt V c t) = dxhatRow V c (t.val / 16) :=
  funext fun y => putTile_row V c t s h y (by have : (y 1).val < 8192 := (y 1).isLt; omega)

/-- `dgamma` after `r` row blocks. -/
def dgAcc (c : Dev nD) : ℕ → Vec F S1x8192 .f32
  | 0 => View.canon []
  | r + 1 => dgBlk (BitVec.ofNat 32 r) (iblk0 V c 0 (pt0 (16 * r + 15))) (iblk0 V c 1 (pt0 (16 * r + 15))) (iblk0 V c 2 (pt0 (16 * r + 15)))
      (dgAcc c r) (dxhatRow V c r)

/-! ## The pipeline's proof data -/

/-- The buffers of the program that region 0 leaves alone. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))
/-- The invariant: the scratch holds the row block's tiles so far; the other buffers and the generator register at anything. -/
def Phi0 (c : Dev nD) (n : ℕ) : sProp 𝕄 :=
  iprop(((∃ s, ⌜Holds0 V c n s⌝ ∗ owns (c : Thread nD τ) scM0_0 fullShare s) ∗ rest0 c) ∗ (∃ r, prngReg c r))
/-- It is what the region is entered with, -/
theorem Phi0_in (c : Dev nD) : (Pipeline.ΦA spec0 c : sProp 𝕄) ⊢ Phi0 V c 0 := by
  rw [PhiA0_eq]; unfold Phi0 rest0
  iintro ⟨⟨⟨%s, HS⟩, HR⟩, Hg⟩
  isplitl [HS HR]
  · isplitl [HS]
    · iexists s; isplitr; · ipureintro; exact holds0_start V c 0 s rfl
      iexact HS
    iexact HR
  iexact Hg
/-- and gives back what the region is left with. -/
theorem Phi0_out (c : Dev nD) (n : ℕ) : Phi0 V c n ⊢ (Pipeline.ΦA spec0 c : sProp 𝕄) := by
  rw [PhiA0_eq]; unfold Phi0 rest0
  iintro ⟨⟨⟨%s, -, HS⟩, HR⟩, Hg⟩
  isplitl [HS HR]
  · isplitl [HS]
    · iexists s; iexact HS
    iexact HR
  iexact Hg

/-- The proof data of pipeline 0 on core `c`: the arrays as the region finds them (`V`); after the body at
    point `t` each input's buffer at its block and the outputs' at their row block's contents; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => dxBlk (iblk0 V c 0 t) (iblk0 V c 1 t) (iblk0 V c 2 t) (iblk0 V c 3 t) (dxhatRow V c (t.val / 16))
    | ⟨8, _⟩ => xhtBlk (iblk0 V c 0 t) (iblk0 V c 1 t) (iblk0 V c 2 t) (iblk0 V c 3 t)
    | ⟨9, _⟩ => dgAcc V c ((t.val + 1) / 16)
  Φ t := Phi0 V c t.val
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = dxBlk (iblk0 V c 0 t) (iblk0 V c 1 t) (iblk0 V c 2 t) (iblk0 V c 3 t) (dxhatRow V c (t.val / 16)) := by dsimp only [dat0]
theorem after0_8 (c : Dev nD) (t : Fin cfg0.N) : (dat0 V c).after 8 t = xhtBlk (iblk0 V c 0 t) (iblk0 V c 1 t) (iblk0 V c 2 t) (iblk0 V c 3 t) := by dsimp only [dat0]
theorem after0_9 (c : Dev nD) (t : Fin cfg0.N) : (dat0 V c).after 9 t = dgAcc V c ((t.val + 1) / 16) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Cert.KernelIdeal.Gen

end
-- ==== Proof.KernelIdeal.Region0.lean ====
/- The body of the first pallas_call meets its obligation at every point. -/
module

public import proofs.«01_k».proof.Proof.KernelIdeal.Outs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## `dgamma`'s buffer between the row blocks -/

variable (V : (c : Dev nD) → (b : Ref sig .tc) → Buf (Elt F) ((c : Thread nD τ).loc b))

/-- After the first row block `dgamma`'s buffer is never fresh. -/
theorem fresh0_9 : ∀ n : ℕ, n < 768 → 15 < n → cfg0.fresh 9 n = false
  | 0, _, h => absurd h (by decide)
  | n + 1, hn, h => by
    have hN : n < cfg0.N := Nat.lt_of_lt_of_eq (Nat.lt_of_succ_lt hn) N_0.symm
    rw [Cfg.fresh_succ _ _ n hN]
    have hf : (cfg0.win 9).flush ⟨n, hN⟩ = false := Bool.eq_false_iff.mpr fun h => by
      have := (flush0_9 _).mp h; dsimp only at this; omega
    rw [hf, Bool.false_or]
    by_cases h15 : n % 16 = 15
    · rw [liveAt0_9 ⟨n, hN⟩ h15, Bool.false_and]
    · rw [fresh0_9 n (by omega) (by omega), Bool.and_false]
/-- What the body finds in it at the last point of a row block, past the first: the sum so far. -/
theorem before0_9 (c : Dev nD) (t : Fin cfg0.N) (h15 : t.val % 16 = 15) (h : 15 < t.val) (d) :
    (dat0 V c).before 9 t d = dgAcc V c (t.val / 16) := by
  have ht : t.val < 768 := Nat.lt_of_lt_of_eq t.isLt N_0
  rw [Dat.before_out_traj (dat0 V c) 9 rfl (fun _ _ => rfl) (fun t ht0 hi hf => by
      rw [after0_9, after0_9]
      have : ¬t.val % 16 = 15 := fun hl => by rw [liveAt0_9 t hl] at hi; exact Bool.false_ne_true hi
      congr 1; dsimp only; omega) t.val t rfl d, fresh0_9 t.val ht h, after0_9]
  rw [if_neg Bool.false_ne_true]
  congr 1; dsimp only; omega
/-- `dgamma` as the run leaves it at the last point of a row block, over what it found. -/
theorem dg_step (c : Dev nD) (t : Fin cfg0.N) (h15 : t.val % 16 = 15) (d) :
    dgBlk (BitVec.ofNat 32 (grid0.coords t 0).val) (iblk0 V c 0 t) (iblk0 V c 1 t) (iblk0 V c 2 t) ((dat0 V c).before 9 t d) (dxhatRow V c (t.val / 16))
      = dgAcc V c ((t.val + 1) / 16) := by
  have ht : t.val < 768 := Nat.lt_of_lt_of_eq t.isLt N_0
  have e0 : (grid0.coords t 0).val = t.val / 16 := by rw [coords0_0 t]; omega
  rw [show (t.val + 1) / 16 = t.val / 16 + 1 by omega]
  unfold dgAcc
  rw [pt0_val t (16 * (t.val / 16) + 15) (by omega), e0]
  by_cases h : 15 < t.val
  · rw [before0_9 V c t h15 h d]
  · rw [show t.val / 16 = 0 by omega]
    exact dgBlk_zero _ _ _ _ _ _

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ (dat0 V c).leavesExact 7 t
    ∗ (dat0 V c).leavesExact 8 t
    ∗ (dat0 V c).leavesExact 9 t)

set_option maxHeartbeats 1600000 in
/-- The body at any point: at the last of its row block it completes the row block's product in the scratch and
    stores the outputs; at any other it adds its tile to the scratch and leaves the outputs' buffers as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6]
  rw [show (dat0 V c).Φ t.castSucc = Phi0 V c t.val from rfl, show (dat0 V c).Φ t.succ = Phi0 V c (t.val + 1) from rfl]
  have ht : t.val < 768 := Nat.lt_of_lt_of_eq t.isLt N_0
  unfold Phi0
  by_cases h15 : t.val % 16 = 15
  · rw [show (dat0 V c).leavesExact 7 t = owns (c : Thread nD τ) (ms0_7 t) fullShare ((dat0 V c).after 7 t) from by
      unfold Dat.leavesExact; rw [liveAt0_7 t h15]]
    rw [show (dat0 V c).leavesExact 8 t = owns (c : Thread nD τ) (ms0_8 t) fullShare ((dat0 V c).after 8 t) from by
      unfold Dat.leavesExact; rw [liveAt0_8 t h15]]
    rw [show (dat0 V c).leavesExact 9 t = owns (c : Thread nD τ) (ms0_9 t) fullShare ((dat0 V c).after 9 t) from by
      unfold Dat.leavesExact; rw [liveAt0_9 t h15]]
    rw [after0_7, after0_8, after0_9]
    iintro ⟨⟨⟨⟨%s, %hs, HS0⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) ((dat0 V c).before 9 t d9) (dxhatRow V c (t.val / 16))).2.2.2 ((hcond0_0 t).mpr h15) s
      (putTile_last V c t s hs h15) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [HS0]; · iexact HS0
    iintro ⟨H0, H1, H2, H3, H4, H5, H6, ⟨%e7, H7⟩, ⟨%e8, H8⟩, ⟨%e9, H9⟩, HS0⟩
    isplitl [HS0 HR Hg]
    · isplitl [HS0 HR]
      · isplitl [HS0]
        · iexists (dxhatRow V c (t.val / 16)); isplitr; · ipureintro; exact holds0_start V c (t.val + 1) _ (by omega)
          iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; rw [run_dxL]; exact View.read_writes_eq_canon _ _ _ (dxL_cover (iblk0 V c 0 t) (iblk0 V c 1 t) (iblk0 V c 2 t) (iblk0 V c 3 t) (dxhatRow V c (t.val / 16)))
    isplitl [H8]
    · unfold owns; iexists _; isplitr
      swap; · iexact H8
      ipureintro; rw [run_xhtL]; exact View.read_writes_eq_canon _ _ _ (xhtL_cover (iblk0 V c 0 t) (iblk0 V c 1 t) (iblk0 V c 2 t) (iblk0 V c 3 t))
    unfold owns; iexists _; isplitr
    swap; · iexact H9
    ipureintro; rw [run_dgL]; exact (View.read_writes_eq_canon _ _ _ (dgL_cover (BitVec.ofNat 32 (grid0.coords t 0).val) (iblk0 V c 0 t) (iblk0 V c 1 t) (iblk0 V c 2 t) ((dat0 V c).before 9 t d9) (dxhatRow V c (t.val / 16)))).trans (dg_step V c t h15 d9)
  · rw [Dat.leavesExact_idle (dat0 V c) 7 t (idleAt0_7 t h15) (Bool.eq_false_iff.mpr fun h => by have := (flush0_7 _).mp h; omega)]
    rw [Dat.leavesExact_idle (dat0 V c) 8 t (idleAt0_8 t h15) (Bool.eq_false_iff.mpr fun h => by have := (flush0_8 _).mp h; omega)]
    rw [Dat.leavesExact_idle (dat0 V c) 9 t (idleAt0_9 t h15) (Bool.eq_false_iff.mpr fun h => by have := (flush0_9 _).mp h; omega)]
    iintro ⟨⟨⟨⟨%s, %hs, HS0⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (kernelRun0_A c (grid0.coords t) _ _ _ _ _ _ _ _ _ _ _ _ _ _ _ _ _ _ _ _ _ _ (fun hc => h15 ((hcond0_0 t).mp hc)) (iblk0 V c 0 t) (iblk0 V c 1 t) (iblk0 V c 2 t) (iblk0 V c 3 t) (iblk0 V c 4 t) (iblk0 V c 5 t) (iblk0 V c 6 t) s Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, HS0⟩
    isplitl [HS0 HR Hg]
    · isplitl [HS0 HR]
      · isplitl [HS0]
        · iexists (putTile (grid0.coords t) s (accAt V c t)); isplitr; · ipureintro; exact holds0_succ V c t s hs h15
          iexact HS0
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iexists _; iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.KernelIdeal.Region1.lean ====
/- The body of the second pallas_call meets its obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1_dw_matmul` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 3) — by arithmetic of the point. -/
theorem hcond1_0 : ∀ t : Fin cfg1.N, cond1_0 (grid1.coords t) ↔ t.val % 3 = 0 :=
  (fun t => by
    have ht : t.val < 240 := Nat.lt_of_lt_of_eq t.isLt N_1
    have e0 : (grid1.coords t 0).val = t.val / 30 % 8 := Pipeline.Grid.coords_val t 0 (by decide) rfl
    have e1 : (grid1.coords t 1).val = t.val / 3 % 10 := Pipeline.Grid.coords_val t 1 (by decide) rfl
    have e2 : (grid1.coords t 2).val = t.val / 1 % 3 := Pipeline.Grid.coords_val t 2 (by decide) rfl
    simp only [cond1_0, e0, e1, e2]
    word_cmp
   : ∀ t : Fin grid1.N, cond1_0 (grid1.coords t) ↔ t.val % 3 = 0)

/-! ## The kernel body on any staging memrefs: a subtype the run finds -/

/-- One staging buffer of output window 2, through which its contents are stated (`View.read_writes_of_cover`: the
    choice does not matter). -/
abbrev VO1_2 : View sig .tc .vmem S1024x1024 .f32 := (Memref.whole cc1_stg2_0 : Memref sig .tc .vmem S1024x1024 .f32).view
/-- Each window's current staging memref at point `t`, spelled as the pipeline passes it (`bodyAt1`), and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first) IN CASE A (`scf.if` 0 taken: points 0, 3, … 237: 80 of 240), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : cond1_0 i)
    (x0 : Vec F S1024x4096 .bf16) (x1 : Vec F S4096x1024 .bf16) :
    { L2 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1_dw_matmul i arg3 harg3 arg4 harg4 arg5 harg5) K } := by
  refine ⟨?_, fun E K => ?run⟩
  case run =>
    simp only [cc1_dw_matmul_eq_skeleton]; unfold cc1_dw_matmul_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case A's pieces for output 2 tile its block (2 stores of `S1024x1024`, checked by the kernel's evaluation: Lib/Ring.lean `Piece.tiledL`, linear in the pieces, through a loop's `@[irreducible]` trip theorem too), so they cover it. -/
theorem cover1_A_2 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : cond1_0 i)
    (x0 : Vec F S1024x4096 .bf16) (x1 : Vec F S4096x1024 .bf16) (y : S1024x1024.Idx) :
    ∃ pc ∈ (kernelRun1_A c i arg3 harg3 arg4 harg4 arg5 harg5 hc0 x0 x1).1, y ∈ pc.1.set :=
  View.cover_of_tiledL (kernelRun1_A c i arg3 harg3 arg4 harg4 arg5 harg5 hc0 x0 x1).1 S1024x1024.size (by sl_kernel_rfl) y

/-- What case A leaves in output 2's staging buffer: its pieces read back over junk. -/
def out1_A_2 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : cond1_0 i)
    (x0 : Vec F S1024x4096 .bf16) (x1 : Vec F S4096x1024 .bf16) : Vec F S1024x1024 .f32 :=
  VO1_2.read (Elt F) (VO1_2.writes (Elt F) VO1_2.junk (kernelRun1_A c i arg3 harg3 arg4 harg4 arg5 harg5 hc0 x0 x1).1)

-- (the run's proof term is large: the definition's epilogue — `abstractNestedProofs` — walks it past the default budget)
set_option maxHeartbeats 1000000 in
/-- What the body's stores leave in each output's staging memref, as pieces (last first) IN CASE B (`scf.if` 0 not taken: points 1, 2, … 239: 160 of 240), WITH the
    proof that on whole staging memrefs — the inputs' at their contents, the outputs it reads before covering (2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : ¬cond1_0 i)
    (x0 : Vec F S1024x4096 .bf16) (x1 : Vec F S4096x1024 .bf16) (xo2 : Vec F S1024x1024 .f32) :
    { L2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc1_dw_matmul i arg3 harg3 arg4 harg4 arg5 harg5) K } := by
  refine ⟨?_, fun E K => ?run⟩
  case run =>
    simp only [cc1_dw_matmul_eq_skeleton]; unfold cc1_dw_matmul_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case B's pieces for output 2 tile its block (1 store of `S1024x1024`, checked by the kernel's evaluation: Lib/Ring.lean `Piece.tiledL`, linear in the pieces, through a loop's `@[irreducible]` trip theorem too), so they cover it. -/
theorem cover1_B_2 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : ¬cond1_0 i)
    (x0 : Vec F S1024x4096 .bf16) (x1 : Vec F S4096x1024 .bf16) (xo2 : Vec F S1024x1024 .f32) (y : S1024x1024.Idx) :
    ∃ pc ∈ (kernelRun1_B c i arg3 harg3 arg4 harg4 arg5 harg5 hc0 x0 x1 xo2).1, y ∈ pc.1.set :=
  View.cover_of_tiledL (kernelRun1_B c i arg3 harg3 arg4 harg4 arg5 harg5 hc0 x0 x1 xo2).1 S1024x1024.size (by sl_kernel_rfl) y

/-- What case B leaves in output 2's staging buffer: its pieces read back over junk. -/
def out1_B_2 (c : Dev nD) (i : grid1.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (hc0 : ¬cond1_0 i)
    (x0 : Vec F S1024x4096 .bf16) (x1 : Vec F S4096x1024 .bf16) (xo2 : Vec F S1024x1024 .f32) : Vec F S1024x1024 .f32 :=
  VO1_2.read (Elt F) (VO1_2.writes (Elt F) VO1_2.junk (kernelRun1_B c i arg3 harg3 arg4 harg4 arg5 harg5 hc0 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 3 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point of case A: that case's contents. -/
theorem outsAt1_A (c : Dev nD) (t : Fin cfg1.N) (h0 : t.val % 3 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 3 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a point of case B output 2's current staging buffer holds what the body left at the point before: the point is
    not the first, the buffer was not written back between (`flush1_2`), the window is live and uncut (Lib/Pipeline/Frame.lean
    `Dat.before_out_kept`). -/
theorem before1_2_B (c : Dev nD) (t : Fin cfg1.N) (h0 : ¬t.val % 3 = 0) (d) :
    (dat1 V c).before 2 t d = (outsAt1 V c (t.val - 1) (Nat.lt_of_le_of_lt (Nat.sub_le _ _) t.isLt)) := by
  have hN : t.val < 240 := lt_of_lt_of_eq t.isLt (show cfg1.N = 240 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 240 := lt_of_lt_of_eq t.isLt (show cfg1.N = 240 from N_1)
  by_cases h0 : t.val % 3 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.KernelIdeal.Run.lean ====
/- @main from launch to return: its segments, its frame and where its results stand. -/
module

public import proofs.«01_k».proof.Proof.KernelIdeal.Region0
public import proofs.«01_k».proof.Proof.KernelIdeal.Region1
public import Idealize.ShloMosaic.Lib.Pipeline.RegionsLoop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v8, main_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the library's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the library's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V1 m ρ) c 0 from rfl]
    iintro ⟨Hp, -, Hr⟩
    iapply (Phi0_in (V1 m ρ) c)
    unfold Pipeline.ΦA
    isplitl [Hr]; · iexact Hr
    iexact Hp
  hout c := by
    rw [Pipeline.ownSems0_none, show (pdats m ρ 0 c).Φ (Fin.last _) = Phi0 (V1 m ρ) c (Fin.last cfg0.N).val from rfl]
    iintro H
    ihave H := (Phi0_out (V1 m ρ) c _) $$ H
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- At the compiled mesh, from any memory with zero counters, every weakly fair execution of @main terminates, nothing
    faulting, and ends with every unscoped buffer at the last boundary's contents `W4` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame claim at any `F`: @main terminates with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c)⟩, h.2⟩) (run_all m ρ)

/-- @main's results are what the last boundary's contents say, and the argument arrays end unchanged. -/
theorem results : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_v7) = W4 m ρ c (Proc.devRef .tc main_v7)
      ∧ r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h.1 c _ (mem_uc main_v8 (by decide)), h.1 c _ (mem_uc main_v7 (by decide)), h.1 c _ (mem_uc main_v9 (by decide)),
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c)⟩) (run_all m ρ)

end Cert.KernelIdeal.Gen

end
-- ==== Proof.KernelIdeal.PayAt.lean ====
/- The payloads of the two kernels at an index, over the extended reals. -/
module

public import proofs.«01_k».proof.Proof.KernelIdeal.Outs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The normalised row: code times scale times reciprocal root mean square. -/
theorem pay6_at (x1 x2 : FVec Ideal S256x1 .f32) (x : FVec Ideal S256x512 .fp8e4m3) (r : Fin 256) (j : Fin 512) :
    k0_pay6 (F := Ideal) x1 x2 x (ix2 r j) = x (ix2 r j) * x1 (ix2 r 0) * x2 (ix2 r 0) := by
  pointwise [k0_pay6, k0_pay3, k0_pay4]
theorem pay7_at (x1 x2 : FVec Ideal S256x1 .f32) (x : FVec Ideal S256x512 .fp8e4m3) (g : FVec Ideal S1x512 .f32) (r : Fin 256) (j : Fin 512) :
    k0_pay7 (F := Ideal) x1 x2 x g (ix2 j r) = x (ix2 r j) * x1 (ix2 r 0) * x2 (ix2 r 0) * g (ix2 0 j) := by
  pointwise [k0_pay7, k0_pay6, k0_pay3, k0_pay4]
theorem pay8_at (b : BitVec 32) (x1 x2 : FVec Ideal S256x1 .f32) (x : FVec Ideal S256x512 .fp8e4m3) (s : FVec Ideal S256x512 .f32)
    (old : FVec Ideal S1x512 .f32) (j : Fin 512) :
    k0_pay8 (F := Ideal) b x1 x2 x s old (ix2 0 j)
      = if b = 0#32 then ∑ r : Fin 256, s (ix2 r j) * (x (ix2 r j) * x1 (ix2 r 0) * x2 (ix2 r 0))
        else old (ix2 0 j) + ∑ r : Fin 256, s (ix2 r j) * (x (ix2 r j) * x1 (ix2 r 0) * x2 (ix2 r 0)) := by
  pointwise [k0_pay8, k0_pay6, k0_pay3, k0_pay4]
  by_cases h : b = 0#32
  · subst h; rfl
  · rw [if_neg h]
    have : Scalar.cmpi CmpIPredicate.eq b 0#32 = 0#1 := by
      rw [show Scalar.cmpi CmpIPredicate.eq b 0#32 = BitVec.ofBool (b == 0#32) from rfl, beq_false_of_ne h]; rfl
    rw [this]; rfl
theorem pay17_at (x1 x2 p : FVec Ideal S256x1 .f32) (x : FVec Ideal S256x512 .fp8e4m3) (s : FVec Ideal S256x512 .f32)
    (g : FVec Ideal S1x512 .f32) (r : Fin 256) :
    k0_pay17 (F := Ideal) x1 x2 p x s g (ix2 r 0)
      = p (ix2 r 0) + ∑ j : Fin 512, s (ix2 r j) * g (ix2 0 j) * (x (ix2 r j) * x1 (ix2 r 0) * x2 (ix2 r 0)) := by
  pointwise [k0_pay17, k0_pay14]
theorem pay77_at (p : FVec Ideal S256x1 .f32) (n s : FVec Ideal S256x512 .f32)
    (g : FVec Ideal S1x512 .f32) (r : Fin 256) :
    k0_pay77 (F := Ideal) p n s g (ix2 r 0)
      = (p (ix2 r 0) + ∑ j : Fin 512, s (ix2 r j) * g (ix2 0 j) * n (ix2 r j)) * Ideal.ofBits .f32 0x39000000#32 := by
  pointwise [k0_pay77]
theorem pay80_at (x1 x2 p : FVec Ideal S256x1 .f32) (x : FVec Ideal S256x512 .fp8e4m3) (s : FVec Ideal S256x512 .f32)
    (g : FVec Ideal S1x512 .f32) (r : Fin 256) (j : Fin 512) :
    k0_pay80 (F := Ideal) x1 x2 p x s g (ix2 r j)
      = x2 (ix2 r 0) * (s (ix2 r j) * g (ix2 0 j) - x (ix2 r j) * x1 (ix2 r 0) * x2 (ix2 r 0) * p (ix2 r 0)) := by
  pointwise [k0_pay80]
theorem pay1z_at (j : S1024x1024.Idx) : k1_pay1 (F := Ideal) j = 0 := by pointwise [k1_pay1]
theorem pay2_at (acc : FVec Ideal S1024x1024 .f32) (a : FVec Ideal S1024x4096 .bf16) (b : FVec Ideal S4096x1024 .bf16) (j : S1024x1024.Idx) :
    k1_pay2 (F := Ideal) acc a b j = acc j + ∑ k : Fin 4096, a (ix2 (j 0) k) * b (ix2 k (j 1)) := by
  pointwise [k1_pay2]

/-- A sum over 10240 columns in ten chunks of 1024. -/
theorem sum_chunks (f : Fin 10240 → EReal) :
    ∑ n : Fin 10240, f n
      = ∑ k : Fin 1024, f ⟨0 + k, by omega⟩ + ∑ k : Fin 1024, f ⟨1024 + k, by omega⟩ + ∑ k : Fin 1024, f ⟨2048 + k, by omega⟩
        + ∑ k : Fin 1024, f ⟨3072 + k, by omega⟩ + ∑ k : Fin 1024, f ⟨4096 + k, by omega⟩ + ∑ k : Fin 1024, f ⟨5120 + k, by omega⟩
        + ∑ k : Fin 1024, f ⟨6144 + k, by omega⟩ + ∑ k : Fin 1024, f ⟨7168 + k, by omega⟩ + ∑ k : Fin 1024, f ⟨8192 + k, by omega⟩
        + ∑ k : Fin 1024, f ⟨9216 + k, by omega⟩ := by
  rw [← Fin.sum_mul_add_fin 10 1024 f]
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero, zero_add]
  rfl

theorem accOf_at (x4 : FVec Ideal S512x10240 .fp8e4m3) (x5 : FVec Ideal S1x10240 .f32) (x6 : FVec Ideal S256x10240 .bf16) (r : Fin 256) (j : Fin 512) :
    accOf (F := Ideal) x4 x5 x6 (ix2 r j) = ∑ n : Fin 10240, x6 (ix2 r n) * (x4 (ix2 j n) * x5 (ix2 0 n)) := by
  rw [sum_chunks]
  pointwise [accOf, k0_pay1, k0_pay101, k0_pay102, k0_pay103, k0_pay104, k0_pay105, k0_pay106]

end Cert.KernelIdeal.Value

end
-- ==== Proof.KernelIdeal.BlkAt.lean ====
/- The blocks a row block leaves, at an index, over the extended reals. -/
module

public import proofs.«01_k».proof.Proof.KernelIdeal.PayAt

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-! ## The slices -/

theorem rowSl_at {e : EltTy} (x : Vec Ideal S256x8192 e) (k : Fin 16) (r : Fin 256) (j : Fin 512) :
    rowSl x k (ix2 r j) = x (ix2 r ⟨512 * k.val + j.val, by omega⟩) := by
  unfold rowSl
  refine View.ld_unit_apply_of _ _ _ _ _ _ fun a => ?_
  fin_cases a
  · exact (Nat.zero_add _).symm
  · rfl
theorem vecSl_at {e : EltTy} (x : Vec Ideal S1x8192 e) (k : Fin 16) (j : Fin 512) :
    vecSl x k (ix2 0 j) = x (ix2 0 ⟨512 * k.val + j.val, by omega⟩) := by
  unfold vecSl
  refine View.ld_unit_apply_of _ _ _ _ _ _ fun a => ?_
  fin_cases a
  · rfl
  · rfl

/-! ## The blocks a row block leaves -/

section
variable (x0 : FVec Ideal S256x8192 .fp8e4m3) (x1 x2 : FVec Ideal S256x1 .f32) (x3 : FVec Ideal S1x8192 .f32) (sf : FVec Ideal S256x8192 .f32)

/-- The normalised row before `gamma`. -/
def nB (r : Fin 256) (d : Fin 8192) : EReal := x0 (ix2 r d) * x1 (ix2 r 0) * x2 (ix2 r 0)

theorem xhtBlk_at (d : Fin 8192) (r : Fin 256) : xhtBlk (F := Ideal) x0 x1 x2 x3 (ix2 d r) = nB x0 x1 x2 r d * x3 (ix2 0 d) := by
  unfold xhtBlk
  refine View.canon_eq_of_allAt _ _ _ (xhtL_cover (F := Ideal) x0 x1 x2 x3 (ix2 d r)) ?_
  intro p hp x hx
  obtain ⟨k, rfl⟩ := List.mem_ofFn.mp hp
  generalize k.rev = k at x hx ⊢
  obtain ⟨j, s, rfl⟩ : ∃ (j : Fin 512) (s : Fin 256), x = ix2 j s := ⟨x 0, x 1, eq_ix2 x⟩
  have hb : 512 * k.val + j.val < 8192 := by have := k.isLt; have := j.isLt; omega
  have h0 : 512 * k.val + 1 * j.val = d.val := congrArg (fun i : S8192x256.Idx => (i 0).val) hx
  have h1 : 0 + 1 * s.val = r.val := congrArg (fun i : S8192x256.Idx => (i 1).val) hx
  obtain rfl : s = r := Fin.ext (by omega)
  obtain rfl : d = ⟨512 * k.val + j.val, hb⟩ := Fin.ext (by dsimp only; omega)
  exact (pay7_at x1 x2 (rowSl (F := Ideal) (e := .fp8e4m3) x0 k) (vecSl (F := Ideal) (e := .f32) x3 k) s j).trans (by rw [rowSl_at, vecSl_at]; rfl)

theorem dgBlk_at (b : BitVec 32) (old : FVec Ideal S1x8192 .f32) (d : Fin 8192) : dgBlk (F := Ideal) b x0 x1 x2 old sf (ix2 0 d)
    = if b = 0#32 then ∑ r : Fin 256, sf (ix2 r d) * nB x0 x1 x2 r d else old (ix2 0 d) + ∑ r : Fin 256, sf (ix2 r d) * nB x0 x1 x2 r d := by
  unfold dgBlk
  refine View.canon_eq_of_allAt _ _ _ (dgL_cover (F := Ideal) b x0 x1 x2 old sf (ix2 0 d)) ?_
  intro p hp x hx
  obtain ⟨k, rfl⟩ := List.mem_ofFn.mp hp
  generalize k.rev = k at x hx ⊢
  obtain ⟨s, j, rfl⟩ : ∃ (s : Fin 1) (j : Fin 512), x = ix2 s j := ⟨x 0, x 1, eq_ix2 x⟩
  have hb : 512 * k.val + j.val < 8192 := by have := k.isLt; have := j.isLt; omega
  have h1 : 512 * k.val + 1 * j.val = d.val := congrArg (fun i : S1x8192.Idx => (i 1).val) hx
  obtain rfl : s = 0 := Subsingleton.elim _ _
  obtain rfl : d = ⟨512 * k.val + j.val, hb⟩ := Fin.ext (by dsimp only; omega)
  refine (pay8_at b x1 x2 (rowSl (F := Ideal) (e := .fp8e4m3) x0 k) (rowSl (F := Ideal) (e := .f32) sf k) (vecSl (F := Ideal) (e := .f32) old k) j).trans ?_
  simp only [rowSl_at, vecSl_at]; rfl

/-- The terms of a row's projection. -/
def pB (r : Fin 256) (d : Fin 8192) : EReal := sf (ix2 r d) * x3 (ix2 0 d) * nB x0 x1 x2 r d

/-- A function of the first `N` numbers, by zero elsewhere. -/
def ext0 {N : ℕ} (f : Fin N → EReal) (n : ℕ) : EReal := if h : n < N then f ⟨n, h⟩ else 0
theorem ext0_of {N : ℕ} (f : Fin N → EReal) (n : ℕ) (h : n < N) : ext0 f n = f ⟨n, h⟩ := dif_pos h
theorem sum_ext0 {N : ℕ} (f : Fin N → EReal) : ∑ n ∈ Finset.range N, ext0 f n = ∑ n : Fin N, f n := by
  rw [Finset.sum_range]; exact Finset.sum_congr rfl fun n _ => ext0_of f n n.isLt
/-- A chunk of such a sum. -/
theorem sum_ext0_chunk {N L : ℕ} (f : Fin N → EReal) (m : ℕ) (h : L * m + L ≤ N) :
    ∑ n ∈ Finset.range (L * (m + 1)), ext0 f n
      = ∑ n ∈ Finset.range (L * m), ext0 f n + ∑ j : Fin L, f ⟨L * m + j.val, by omega⟩ := by
  rw [Nat.mul_succ, Finset.sum_range_add, Finset.sum_range (fun x => ext0 f (L * m + x))]
  exact congrArg _ (Finset.sum_congr rfl fun j _ => ext0_of f _ _)

theorem projN_at (r : Fin 256) : ∀ (m : ℕ) (h : m ≤ 16), projN (F := Ideal) x0 x1 x2 x3 sf m h (ix2 r 0)
    = ∑ d ∈ Finset.range (512 * m), ext0 (pB x0 x1 x2 x3 sf r) d
  | 0, _ => by
    rw [Nat.mul_zero, Finset.range_zero, Finset.sum_empty]
    unfold projN
    pointwise [k0_pay5]
  | m + 1, h => by
    rw [sum_ext0_chunk _ m (by omega), ← projN_at r m (by omega)]
    refine (pay17_at (k0_pay3 (F := Ideal) x1) (k0_pay4 (F := Ideal) x2) _ (rowSl (F := Ideal) (e := .fp8e4m3) x0 (Fin.mk m h)) (rowSl (F := Ideal) (e := .f32) sf (Fin.mk m h)) (vecSl (F := Ideal) (e := .f32) x3 (Fin.mk m h)) r).trans ?_
    simp only [rowSl_at, vecSl_at]
    pointwise [k0_pay3, k0_pay4]
    rfl

theorem projOf_at (r : Fin 256) : projOf (F := Ideal) x0 x1 x2 x3 sf (ix2 r 0)
    = (∑ d : Fin 8192, pB x0 x1 x2 x3 sf r d) * Ideal.ofBits .f32 0x39000000#32 := by
  refine (pay77_at _ _ _ _ r).trans ?_
  rw [show (∑ d : Fin 8192, pB x0 x1 x2 x3 sf r d) = ∑ d ∈ Finset.range (512 * (15 + 1)), ext0 (pB x0 x1 x2 x3 sf r) d from (sum_ext0 _).symm,
    sum_ext0_chunk _ 15 (by omega), projN_at]
  simp only [rowSl_at, vecSl_at, pay6_at]
  rfl

theorem dxBlk_at (r : Fin 256) (d : Fin 8192) : dxBlk (F := Ideal) x0 x1 x2 x3 sf (ix2 r d)
    = x2 (ix2 r 0) * (sf (ix2 r d) * x3 (ix2 0 d)
        - nB x0 x1 x2 r d * ((∑ d : Fin 8192, pB x0 x1 x2 x3 sf r d) * Ideal.ofBits .f32 0x39000000#32)) := by
  unfold dxBlk
  refine View.canon_eq_of_allAt _ _ _ (dxL_cover (F := Ideal) x0 x1 x2 x3 sf (ix2 r d)) ?_
  intro p hp x hx
  obtain ⟨k, rfl⟩ := List.mem_ofFn.mp hp
  generalize k.rev = k at x hx ⊢
  obtain ⟨s, j, rfl⟩ : ∃ (s : Fin 256) (j : Fin 512), x = ix2 s j := ⟨x 0, x 1, eq_ix2 x⟩
  have h0 : 0 + 1 * s.val = r.val := congrArg (fun i : S256x8192.Idx => (i 0).val) hx
  have hb : 512 * k.val + j.val < 8192 := by have := k.isLt; have := j.isLt; omega
  have h1 : 512 * k.val + 1 * j.val = d.val := congrArg (fun i : S256x8192.Idx => (i 1).val) hx
  obtain rfl : s = r := Fin.ext (by omega)
  obtain rfl : d = ⟨512 * k.val + j.val, hb⟩ := Fin.ext (by dsimp only; omega)
  refine (pay80_at (k0_pay3 (F := Ideal) x1) (k0_pay4 (F := Ideal) x2) (projOf (F := Ideal) x0 x1 x2 x3 sf) (rowSl (F := Ideal) (e := .fp8e4m3) x0 k) (rowSl (F := Ideal) (e := .f32) sf k) (vecSl (F := Ideal) (e := .f32) x3 k) s j).trans ?_
  rw [projOf_at, rowSl_at, rowSl_at, vecSl_at]
  pointwise [k0_pay3, k0_pay4]
  rfl
end

end Cert.KernelIdeal.Value

end
-- ==== Proof.Spec.lean ====
/- What the three results are, entry by entry, over the extended reals: of the arguments flattened to two axes
   (tokens by features), the backward pass of the normalisation and the projection. -/
module

public import Idealize.ShloMosaic.Lib.Pipeline.ValueKit

@[expose] public section

set_option maxRecDepth 16384

noncomputable section

open Idealize.ShloMosaic

namespace Cert.Spec

variable (A0 : FVec Ideal ⟨2, ![12288, 8192]⟩ .fp8e4m3) (A1 A2 : FVec Ideal ⟨2, ![12288, 1]⟩ .f32) (A3 : FVec Ideal ⟨2, ![1, 8192]⟩ .f32)
  (A4 : FVec Ideal ⟨2, ![8192, 10240]⟩ .fp8e4m3) (A5 : FVec Ideal ⟨2, ![1, 10240]⟩ .f32) (A6 : FVec Ideal ⟨2, ![12288, 10240]⟩ .bf16)

/-- The normalised activations before `gamma`. -/
def n (i : Fin 12288) (d : Fin 8192) : EReal := A0 (ix2 i d) * A1 (ix2 i 0) * A2 (ix2 i 0)
/-- The gradient of the normalised activations: `dqkv · wᵀ`. -/
def dxhat (i : Fin 12288) (d : Fin 8192) : EReal := ∑ q : Fin 10240, A6 (ix2 i q) * (A4 (ix2 d q) * A5 (ix2 0 q))
/-- The row sums of `dxhat * gamma * n`. -/
def proj (i : Fin 12288) : EReal := ∑ d : Fin 8192, dxhat A4 A5 A6 i d * A3 (ix2 0 d) * n A0 A1 A2 i d
/-- `dx`. -/
def dx (i : Fin 12288) (d : Fin 8192) : EReal :=
  A2 (ix2 i 0) * (dxhat A4 A5 A6 i d * A3 (ix2 0 d) - n A0 A1 A2 i d * (proj A0 A1 A2 A3 A4 A5 A6 i * ((1 / 8192 : ℝ) : EReal)))
/-- `dgamma`. -/
def dg (d : Fin 8192) : EReal := ∑ i : Fin 12288, dxhat A4 A5 A6 i d * n A0 A1 A2 i d
/-- `dW`. -/
def dw (d : Fin 8192) (q : Fin 10240) : EReal := ∑ i : Fin 12288, n A0 A1 A2 i d * A3 (ix2 0 d) * A6 (ix2 i q)

/-- The constant the sums are multiplied by is `1 / 8192`, -/
theorem ofBits_inv : Ideal.ofBits .f32 0x39000000#32 = ((1 / 8192 : ℝ) : EReal) := by
  simp [Ideal.ofBits, Ideal.ieee, -EReal.coe_mul]; norm_num
/-- and dividing by 8192 is multiplying by it. -/
theorem div_8192 (x : EReal) : Ideal.div x (Ideal.ofBits .f32 0x46000000#32) = x * ((1 / 8192 : ℝ) : EReal) := by
  have h : Ideal.ofBits .f32 0x46000000#32 = ((8192 : ℝ) : EReal) := by
    simp [Ideal.ofBits, Ideal.ieee, -EReal.coe_mul]; norm_num
  rw [h]; exact Ideal.div_coe (by norm_num) x

/-! ## The results over the arguments as given -/

section
variable (x0 : FVec Ideal ⟨3, ![2, 6144, 8192]⟩ .fp8e4m3) (x1 x2 : FVec Ideal ⟨2, ![2, 6144]⟩ .f32) (x3 : FVec Ideal ⟨1, ![8192]⟩ .f32)
  (x4 : FVec Ideal ⟨2, ![8192, 10240]⟩ .fp8e4m3) (x5 : FVec Ideal ⟨1, ![10240]⟩ .f32) (x6 : FVec Ideal ⟨3, ![2, 6144, 10240]⟩ .bf16)

/-- `x_codes` by token and feature. -/
def f0 : FVec Ideal ⟨2, ![12288, 8192]⟩ .fp8e4m3 := shapeCast ⟨2, ![12288, 8192]⟩ x0 (by decide)
/-- A vector over tokens as a column. -/
def f1 (x : FVec Ideal ⟨2, ![2, 6144]⟩ .f32) : FVec Ideal ⟨2, ![12288, 1]⟩ .f32 := shapeCast ⟨2, ![12288, 1]⟩ x (by decide)
/-- `gamma` as a row. -/
def f3 : FVec Ideal ⟨2, ![1, 8192]⟩ .f32 := shapeCast ⟨2, ![1, 8192]⟩ x3 (by decide)
/-- `w_scale` as a row. -/
def f5 : FVec Ideal ⟨2, ![1, 10240]⟩ .f32 := shapeCast ⟨2, ![1, 10240]⟩ x5 (by decide)
/-- `dqkv` by token and column. -/
def f6 : FVec Ideal ⟨2, ![12288, 10240]⟩ .bf16 := shapeCast ⟨2, ![12288, 10240]⟩ x6 (by decide)

/-- The first result. -/
def resDx : FVec Ideal ⟨3, ![2, 6144, 8192]⟩ .bf16 :=
  shapeCast ⟨3, ![2, 6144, 8192]⟩ (show FVec Ideal ⟨2, ![12288, 8192]⟩ .bf16 from
    fun i => dx (f0 x0) (f1 x1) (f1 x2) (f3 x3) x4 (f5 x5) (f6 x6) (i 0) (i 1)) (by decide)
/-- The second. -/
def resDw : FVec Ideal ⟨2, ![8192, 10240]⟩ .f32 := fun i => dw (f0 x0) (f1 x1) (f1 x2) (f3 x3) (f6 x6) (i 0) (i 1)
/-- The third. -/
def resDg : FVec Ideal ⟨1, ![8192]⟩ .f32 :=
  shapeCast ⟨1, ![8192]⟩ (show FVec Ideal ⟨2, ![1, 8192]⟩ .f32 from
    fun i => dg (f0 x0) (f1 x1) (f1 x2) x4 (f5 x5) (f6 x6) (i 1)) (by decide)
end

end Cert.Spec

end
-- ==== Proof.KernelIdeal.Arr0.lean ====
/- What the first pallas_call leaves in its arrays, entry by entry, over the extended reals. -/
module

public import proofs.«01_k».proof.Proof.KernelIdeal.BlkAt
public import proofs.«01_k».proof.Proof.KernelIdeal.Outs
public import proofs.«01_k».proof.Proof.Spec

@[expose] public section
@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b)) (c : Dev nD)

/-- Which block each window reads or writes at each point. -/
theorem idx0 : ∀ t : Fin cfg0.N, win0_0.index t = ![t.val / 16, 0] ∧ win0_1.index t = ![t.val / 16, 0] ∧ win0_2.index t = ![t.val / 16, 0]
    ∧ win0_3.index t = ![0, 0] ∧ win0_4.index t = ![t.val % 16, 0] ∧ win0_5.index t = ![0, 0] ∧ win0_6.index t = ![t.val / 16, 0]
    ∧ win0_7.index t = ![t.val / 16, 0] ∧ win0_8.index t = ![0, t.val / 16] ∧ win0_9.index t = ![0, 0] :=
  (by decide +kernel : ∀ t : Fin grid0.N, _)

/-! ## The blocks, in the arrays -/

theorem b0 (t : Fin cfg0.N) (r : Fin 256) (d : Fin 8192) (i : Fin 12288) (hi : i.val = 256 * (t.val / 16) + r.val) :
    (show FVec Ideal S256x8192 .fp8e4m3 from iblk0 V c 0 t) (ix2 r d) = (show FVec Ideal S12288x8192 .fp8e4m3 from V c main_v0) (ix2 i d) := by
  blk_ext [iblk0, idx0 t]
theorem b1 (t : Fin cfg0.N) (r : Fin 256) (i : Fin 12288) (hi : i.val = 256 * (t.val / 16) + r.val) :
    (show FVec Ideal S256x1 .f32 from iblk0 V c 1 t) (ix2 r 0) = (show FVec Ideal S12288x1 .f32 from V c main_v2) (ix2 i 0) := by
  blk_ext [iblk0, idx0 t]
theorem b2 (t : Fin cfg0.N) (r : Fin 256) (i : Fin 12288) (hi : i.val = 256 * (t.val / 16) + r.val) :
    (show FVec Ideal S256x1 .f32 from iblk0 V c 2 t) (ix2 r 0) = (show FVec Ideal S12288x1 .f32 from V c main_v3) (ix2 i 0) := by
  blk_ext [iblk0, idx0 t]
theorem b3 (t : Fin cfg0.N) (d : Fin 8192) :
    (show FVec Ideal S1x8192 .f32 from iblk0 V c 3 t) (ix2 0 d) = (show FVec Ideal S1x8192 .f32 from V c main_v4) (ix2 0 d) := by
  blk_ext [iblk0, idx0 t]
theorem b4 (t : Fin cfg0.N) (j : Fin 512) (q : Fin 10240) (d : Fin 8192) (hd : d.val = 512 * (t.val % 16) + j.val) :
    (show FVec Ideal S512x10240 .fp8e4m3 from iblk0 V c 4 t) (ix2 j q) = (show FVec Ideal S8192x10240 .fp8e4m3 from V c main_arg4) (ix2 d q) := by
  blk_ext [iblk0, idx0 t]
theorem b5 (t : Fin cfg0.N) (q : Fin 10240) :
    (show FVec Ideal S1x10240 .f32 from iblk0 V c 5 t) (ix2 0 q) = (show FVec Ideal S1x10240 .f32 from V c main_v5) (ix2 0 q) := by
  blk_ext [iblk0, idx0 t]
theorem b6 (t : Fin cfg0.N) (r : Fin 256) (q : Fin 10240) (i : Fin 12288) (hi : i.val = 256 * (t.val / 16) + r.val) :
    (show FVec Ideal S256x10240 .bf16 from iblk0 V c 6 t) (ix2 r q) = (show FVec Ideal S12288x10240 .bf16 from V c main_v1) (ix2 i q) := by
  blk_ext [iblk0, idx0 t]

theorem nB_at (t : Fin cfg0.N) (r : Fin 256) (d : Fin 8192) (i : Fin 12288) (hi : i.val = 256 * (t.val / 16) + r.val) :
    nB (iblk0 V c 0 t) (iblk0 V c 1 t) (iblk0 V c 2 t) r d = Cert.Spec.n (V c main_v0) (V c main_v2) (V c main_v3) i d := by
  unfold nB Cert.Spec.n
  exact congrArg₂ (· * ·) (congrArg₂ (· * ·) (b0 V c t r d i hi) (b1 V c t r i hi)) (b2 V c t r i hi)

theorem dxhatRow_at (b : ℕ) (hb : b < 48) (r : Fin 256) (d : Fin 8192) (i : Fin 12288) (hi : i.val = 256 * b + r.val) :
    dxhatRow V c b (ix2 r d) = Cert.Spec.dxhat (V c main_arg4) (V c main_v5) (V c main_v1) i d := by
  have ht : (pt0 (16 * b + (ix2 r d 1).val / 512)).val = 16 * b + d.val / 512 := Nat.mod_eq_of_lt (by show 16 * b + d.val / 512 < 768; omega)
  refine (accOf_at _ _ _ r ⟨d.val % 512, Nat.mod_lt _ (by decide)⟩).trans ?_
  unfold Cert.Spec.dxhat
  refine Finset.sum_congr rfl fun q _ => ?_
  exact congrArg₂ (· * ·) (b6 V c _ r q i (by rw [ht]; omega))
    (congrArg₂ (· * ·) (b4 V c _ _ q d (by rw [ht]; dsimp only; omega)) (b5 V c _ q))

/-- `dgamma` after `b` row blocks: the sum over their rows. -/
theorem dgAcc_at (d : Fin 8192) : ∀ b : ℕ, 0 < b → b ≤ 48 → dgAcc V c b (ix2 0 d)
    = ∑ i ∈ Finset.range (256 * b), ext0 (fun i : Fin 12288 => Cert.Spec.dxhat (V c main_arg4) (V c main_v5) (V c main_v1) i d
        * Cert.Spec.n (V c main_v0) (V c main_v2) (V c main_v3) i d) i
  | 0, h, _ => absurd h (lt_irrefl _)
  | b + 1, _, h => by
    have ht : (pt0 (16 * b + 15)).val = 16 * b + 15 := Nat.mod_eq_of_lt (by omega)
    have hs : ∑ r : Fin 256, dxhatRow V c b (ix2 r d) * nB (iblk0 V c 0 (pt0 (16 * b + 15))) (iblk0 V c 1 (pt0 (16 * b + 15))) (iblk0 V c 2 (pt0 (16 * b + 15))) r d
        = ∑ r : Fin 256, (fun i : Fin 12288 => Cert.Spec.dxhat (V c main_arg4) (V c main_v5) (V c main_v1) i d
            * Cert.Spec.n (V c main_v0) (V c main_v2) (V c main_v3) i d) ⟨256 * b + r.val, by omega⟩ :=
      Finset.sum_congr rfl fun r _ => congrArg₂ (· * ·) (dxhatRow_at V c b (by omega) r d _ rfl) (nB_at V c _ r d _ (by rw [ht]; dsimp only; omega))
    rw [sum_ext0_chunk _ b (by omega), ← hs]
    refine (dgBlk_at _ _ _ _ _ _ d).trans ?_
    by_cases hb : b = 0
    · subst hb
      rw [if_pos rfl, Nat.mul_zero, Finset.range_zero, Finset.sum_empty]; exact (zero_add _).symm
    · rw [if_neg (by intro e; have := congrArg BitVec.toNat e; simp at this; omega), dgAcc_at d b (by omega) (by omega)]

/-! ## The arrays after the run -/

theorem arr0_7 : (dat0 V c).arrAt 7 cfg0.N = fun i : S12288x8192.Idx =>
    Cert.Spec.dx (V c main_v0) (V c main_v2) (V c main_v3) (V c main_v4) (V c main_arg4) (V c main_v5) (V c main_v1) (i 0) (i 1) := by
  refine (dat0 V c).arrAt_eq_of_covers 7 _ (by decide +kernel) fun t hf y => ?_
  blk_simp
  rw [after0_7]
  have ht : t.val < 768 := Nat.lt_of_lt_of_eq t.isLt N_0
  obtain ⟨r, d, rfl⟩ : ∃ (r : Fin 256) (d : Fin 8192), y = ix2 r d := ⟨y 0, y 1, eq_ix2 y⟩
  have h0 : ((win0_7.blk t).view.emb (ix2 r d) 0).val = 256 * (t.val / 16) + r.val := by blk_simp [idx0 t]; omega
  have h1 : (win0_7.blk t).view.emb (ix2 r d) 1 = d := Fin.ext (by blk_simp [idx0 t])
  refine (dxBlk_at _ _ _ _ _ r d).trans ?_
  rw [h1]
  unfold Cert.Spec.dx Cert.Spec.proj
  have hn := fun d => nB_at V c t r d _ h0
  have hx := fun d => dxhatRow_at V c (t.val / 16) (by omega) r d _ h0
  refine congrArg₂ (· * ·) (b2 V c t r _ h0) (congrArg₂ (· - ·) (congrArg₂ (· * ·) (hx d) (b3 V c t d)) (congrArg₂ (· * ·) (hn d)
    (congrArg₂ (· * ·) (Finset.sum_congr rfl fun d _ => congrArg₂ (· * ·) (congrArg₂ (· * ·) (hx d) (b3 V c t d)) (hn d)) Cert.Spec.ofBits_inv)))

theorem arr0_8 : (dat0 V c).arrAt 8 cfg0.N = fun i : S8192x12288.Idx =>
    Cert.Spec.n (V c main_v0) (V c main_v2) (V c main_v3) (i 1) (i 0) * (show FVec Ideal S1x8192 .f32 from V c main_v4) (ix2 0 (i 0)) := by
  refine (dat0 V c).arrAt_eq_of_covers 8 _ (by decide +kernel) fun t hf y => ?_
  blk_simp
  rw [after0_8]
  obtain ⟨d, r, rfl⟩ : ∃ (d : Fin 8192) (r : Fin 256), y = ix2 d r := ⟨y 0, y 1, eq_ix2 y⟩
  have h0 : ((win0_8.blk t).view.emb (ix2 d r) 1).val = 256 * (t.val / 16) + r.val := by blk_simp [idx0 t]; omega
  have h1 : (win0_8.blk t).view.emb (ix2 d r) 0 = d := Fin.ext (by blk_simp [idx0 t])
  refine (xhtBlk_at _ _ _ _ d r).trans ?_
  rw [h1]
  exact congrArg₂ (· * ·) (nB_at V c t r d _ h0) (b3 V c t d)

theorem arr0_9 : (dat0 V c).arrAt 9 cfg0.N = fun i : S1x8192.Idx =>
    Cert.Spec.dg (V c main_v0) (V c main_v2) (V c main_v3) (V c main_arg4) (V c main_v5) (V c main_v1) (i 1) := by
  refine (dat0 V c).arrAt_eq_of_covers 9 _ (by decide +kernel) fun t hf y => ?_
  blk_simp
  rw [after0_9]
  have ht : t.val < 768 := Nat.lt_of_lt_of_eq t.isLt N_0
  have h := (flush0_9 t).mp hf
  obtain ⟨s, d, rfl⟩ : ∃ (s : Fin 1) (d : Fin 8192), y = ix2 s d := ⟨y 0, y 1, eq_ix2 y⟩
  obtain rfl : s = 0 := Subsingleton.elim _ _
  have h1 : (win0_9.blk t).view.emb (ix2 0 d) 1 = d := Fin.ext (by blk_simp [idx0 t])
  rw [h1, show (t.val + 1) / 16 = 48 by omega]
  refine (dgAcc_at V c d 48 (by omega) (by omega)).trans (sum_ext0 _)

end Cert.KernelIdeal.Value

end
-- ==== Proof.KernelIdeal.Arr1.lean ====
/- What the second pallas_call leaves in its result, entry by entry, over the extended reals. -/
module

public import proofs.«01_k».proof.Proof.KernelIdeal.PayAt
public import proofs.«01_k».proof.Proof.KernelIdeal.Region1

@[expose] public section
@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b)) (c : Dev nD)

/-- Which block each window reads or writes at each point. -/
theorem idx1 : ∀ t : Fin cfg1.N, win1_0.index t = ![t.val / 30, t.val % 3] ∧ win1_1.index t = ![t.val % 3, t.val / 3 % 10]
    ∧ win1_2.index t = ![t.val / 30, t.val / 3 % 10] :=
  (by decide +kernel : ∀ t : Fin grid1.N, _)

theorem arr1_2 : (dat1 V c).arrAt 2 cfg1.N = fun j : S8192x10240.Idx => ∑ i : Fin 12288,
    (show FVec Ideal S8192x12288 .bf16 from V c main_v6_1) (ix2 (j 0) i) * (show FVec Ideal S12288x10240 .bf16 from V c main_v1) (ix2 i (j 1)) := by
  refine (dat1 V c).arrAt_eq_of_covers 2 _ (by decide +kernel) fun t hf y => ?_
  blk_simp
  rw [after1_2, Pipeline.eq_sum_fin_of_reset_step_apply_of_flush (fun n h => outsAt1 V c n h) 3 (fun _ => 0) _
    (fun t h j => by rw [outsAt1_A V c t h]; unfold out1_A_2; frame_out; rw [pay2_at, pay1z_at])
    (fun t h j => by rw [outsAt1_B V c t h]; unfold out1_B_2; frame_out; rw [pay2_at])
    t ((flush1_2 t).mp hf) _, zero_add]
  refine Fin.sum_mul_add_congr fun s k hl => ?_
  blk_point [iblk1, idx1 t, idx1 ⟨_, Pipeline.run_point_lt_of_flush t ((flush1_2 t).mp hf) s⟩]

end Cert.KernelIdeal.Value

end
-- ==== Proof.KernelIdeal.Value.lean ====
/- What @main's results are after the run, over the extended reals. -/
module

public import proofs.«01_k».proof.Proof.KernelIdeal.Arr0
public import proofs.«01_k».proof.Proof.KernelIdeal.Arr1
public import proofs.«01_k».proof.Proof.KernelIdeal.Run

@[expose] public section
@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg) (c : Dev nD)

/-! ## What the first pallas_call finds -/

theorem V1_v0 : V1 m ρ c main_v0 = Cert.Spec.f0 (m ((c : Thread nD τ).loc main_arg0)) := by
  unfold Cert.Spec.f0; show StableHlo.after hostOps0 (W0 m ρ c) (Proc.devRef .tc main_v0) = _; after_results; try rfl
theorem V1_v1 : V1 m ρ c main_v1 = Cert.Spec.f6 (m ((c : Thread nD τ).loc main_arg6)) := by
  unfold Cert.Spec.f6; show StableHlo.after hostOps0 (W0 m ρ c) (Proc.devRef .tc main_v1) = _; after_results; try rfl
theorem V1_v2 : V1 m ρ c main_v2 = Cert.Spec.f1 (m ((c : Thread nD τ).loc main_arg1)) := by
  unfold Cert.Spec.f1; show StableHlo.after hostOps0 (W0 m ρ c) (Proc.devRef .tc main_v2) = _; after_results; try rfl
theorem V1_v3 : V1 m ρ c main_v3 = Cert.Spec.f1 (m ((c : Thread nD τ).loc main_arg2)) := by
  unfold Cert.Spec.f1; show StableHlo.after hostOps0 (W0 m ρ c) (Proc.devRef .tc main_v3) = _; after_results; try rfl
theorem V1_v4 : V1 m ρ c main_v4 = Cert.Spec.f3 (m ((c : Thread nD τ).loc main_arg3)) := by
  unfold Cert.Spec.f3; show StableHlo.after hostOps0 (W0 m ρ c) (Proc.devRef .tc main_v4) = _; after_results; try rfl
theorem V1_v5 : V1 m ρ c main_v5 = Cert.Spec.f5 (m ((c : Thread nD τ).loc main_arg5)) := by
  unfold Cert.Spec.f5; show StableHlo.after hostOps0 (W0 m ρ c) (Proc.devRef .tc main_v5) = _; after_results; try rfl
theorem V1_arg4 : V1 m ρ c main_arg4 = m ((c : Thread nD τ).loc main_arg4) := W1_args m ρ c main_arg4 (by decide)

/-! ## The results -/

theorem W3_v6_0 : W3 m ρ c (Proc.devRef .tc main_v6_0) = fun i : S12288x8192.Idx =>
    Cert.Spec.dx (Cert.Spec.f0 (m ((c : Thread nD τ).loc main_arg0))) (Cert.Spec.f1 (m ((c : Thread nD τ).loc main_arg1)))
      (Cert.Spec.f1 (m ((c : Thread nD τ).loc main_arg2))) (Cert.Spec.f3 (m ((c : Thread nD τ).loc main_arg3))) (m ((c : Thread nD τ).loc main_arg4))
      (Cert.Spec.f5 (m ((c : Thread nD τ).loc main_arg5))) (Cert.Spec.f6 (m ((c : Thread nD τ).loc main_arg6))) (i 0) (i 1) := by
  refine (W3_of m ρ c main_v6_0 (by decide)).trans ((W2_arr m ρ c 7).trans ((arr0_7 (V1 m ρ) c).trans ?_))
  rw [V1_v0, V1_v1, V1_v2, V1_v3, V1_v4, V1_v5, V1_arg4]
theorem W3_v6_2 : W3 m ρ c (Proc.devRef .tc main_v6_2) = fun i : S1x8192.Idx =>
    Cert.Spec.dg (Cert.Spec.f0 (m ((c : Thread nD τ).loc main_arg0))) (Cert.Spec.f1 (m ((c : Thread nD τ).loc main_arg1)))
      (Cert.Spec.f1 (m ((c : Thread nD τ).loc main_arg2))) (m ((c : Thread nD τ).loc main_arg4))
      (Cert.Spec.f5 (m ((c : Thread nD τ).loc main_arg5))) (Cert.Spec.f6 (m ((c : Thread nD τ).loc main_arg6))) (i 1) := by
  refine (W3_of m ρ c main_v6_2 (by decide)).trans ((W2_arr m ρ c 9).trans ((arr0_9 (V1 m ρ) c).trans ?_))
  rw [V1_v0, V1_v1, V1_v2, V1_v3, V1_v5, V1_arg4]

theorem V2_v6_1 : V2 m ρ c main_v6_1 = fun i : S8192x12288.Idx =>
    Cert.Spec.n (Cert.Spec.f0 (m ((c : Thread nD τ).loc main_arg0))) (Cert.Spec.f1 (m ((c : Thread nD τ).loc main_arg1)))
      (Cert.Spec.f1 (m ((c : Thread nD τ).loc main_arg2))) (i 1) (i 0) * Cert.Spec.f3 (m ((c : Thread nD τ).loc main_arg3)) (ix2 0 (i 0)) := by
  refine (W2_arr m ρ c 8).trans ((arr0_8 (V1 m ρ) c).trans ?_)
  rw [V1_v0, V1_v2, V1_v3, V1_v4]
theorem V2_v1 : V2 m ρ c main_v1 = Cert.Spec.f6 (m ((c : Thread nD τ).loc main_arg6)) :=
  (W2_of m ρ c main_v1 (by decide)).trans (V1_v1 m ρ c)

theorem W4_v8 : W4 m ρ c (Proc.devRef .tc main_v8) = Cert.Spec.resDx (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  unfold Cert.Spec.resDx
  rw [← W3_v6_0 m ρ c]
  after_results; try rfl
theorem W4_v9 : W4 m ρ c (Proc.devRef .tc main_v9) = Cert.Spec.resDg (m ((c : Thread nD τ).loc main_arg0)) (m ((c : Thread nD τ).loc main_arg1))
    (m ((c : Thread nD τ).loc main_arg2)) (m ((c : Thread nD τ).loc main_arg4)) (m ((c : Thread nD τ).loc main_arg5))
    (m ((c : Thread nD τ).loc main_arg6)) := by
  unfold Cert.Spec.resDg
  rw [← W3_v6_2 m ρ c]
  after_results; try rfl
theorem W4_v7 : W4 m ρ c (Proc.devRef .tc main_v7) = Cert.Spec.resDw (m ((c : Thread nD τ).loc main_arg0)) (m ((c : Thread nD τ).loc main_arg1))
    (m ((c : Thread nD τ).loc main_arg2)) (m ((c : Thread nD τ).loc main_arg3)) (m ((c : Thread nD τ).loc main_arg6)) := by
  refine (W4_of m ρ c main_v7 (by decide)).trans ((W3_arr m ρ c 2).trans ((arr1_2 (V2 m ρ) c).trans ?_))
  rw [V2_v6_1, V2_v1]
  rfl

/-- @main's results, and the argument arrays unchanged. -/
theorem run : θ_run defs (onTc (τ := τ) (main (F := Ideal))) ⟨m, fun _ => 0, ρ⟩ (fun r => ∀ c : Dev nD,
      r.2.mem ((c.tc : Thread nD τ).loc main_v8) = Cert.Spec.resDx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v7) = Cert.Spec.resDw (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c.tc : Thread nD τ).loc main_v9) = Cert.Spec.resDg (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_v8 m ρ c), (h c).2.1.trans (W4_v7 m ρ c), (h c).2.2.1.trans (W4_v9 m ρ c), (h c).2.2.2⟩)
    (results m ρ)

end Cert.KernelIdeal.Value

end
-- ==== Proof.ReferenceIdeal.Value.lean ====
/- What the reference's results are after the run, over the extended reals. -/
module

public import proofs.«01_k».proof.Proof.Gen.ReferenceIdeal
public import proofs.«01_k».proof.Proof.Gen.ReferenceIdeal.Frame
public import proofs.«01_k».proof.Proof.Spec
public import Idealize.ShloMosaic.Lib.Pipeline.ValueKit

@[expose] public section
@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

section
variable (x0 : FVec Ideal S12288x8192 .fp8e4m3) (x1 x2 : FVec Ideal S12288x1 .f32) (x3 : FVec Ideal S1x8192 .f32)
  (x4 : FVec Ideal S8192x10240 .fp8e4m3) (x5 : FVec Ideal S1x10240 .f32) (x6 : FVec Ideal S12288x10240 .bf16)

/-- The reference's `dxhat`, -/
theorem pay7_at (i : Fin 12288) (d : Fin 8192) : k0_pay7 (F := Ideal) x6 x4 x5 (ix2 i d) = Cert.Spec.dxhat x4 x5 x6 i d := by
  pointwise [k0_pay7, k0_pay4, Cert.Spec.dxhat]
/-- its `n`, -/
theorem pay5_at (i : Fin 12288) (d : Fin 8192) : k0_pay5 (F := Ideal) x2 x0 x1 (ix2 i d) = Cert.Spec.n x0 x1 x2 i d := by
  pointwise [k0_pay5, k0_pay2, Cert.Spec.n]
/-- its `dW`, -/
theorem pay6_at (j : S8192x10240.Idx) : k0_pay6 (F := Ideal) x2 x3 x6 x0 x1 j = Cert.Spec.dw x0 x1 x2 x3 x6 (j 0) (j 1) := by
  pointwise [k0_pay6, k0_pay3, k0_pay4, pay5_at, Cert.Spec.dw]
/-- its `dgamma`, -/
theorem pay8_at (j : S1x8192.Idx) : k0_pay8 (F := Ideal) x2 x6 x0 x1 x4 x5 j = Cert.Spec.dg x0 x1 x2 x4 x5 x6 (j 1) := by
  pointwise [k0_pay8, pay5_at, pay7_at, Cert.Spec.dg]
/-- its row sums, -/
theorem pay10_at (i : S12288.Idx) : k0_pay10 (F := Ideal) x2 x3 x6 x0 x1 x4 x5 i = Cert.Spec.proj x0 x1 x2 x3 x4 x5 x6 (i 0) := by
  pointwise [k0_pay10, k0_pay9, k0_pay3, pay5_at, pay7_at, Cert.Spec.proj]
/-- and its `dx`. -/
theorem pay1_at (i : Fin 12288) (d : Fin 8192) :
    k0_pay1 (F := Ideal) (k0_pay2 x2) (k0_pay5 x2 x0 x1) (k0_pay9 x3 x6 x4 x5) (k0_pay10 x2 x3 x6 x0 x1 x4 x5) (ix2 i d)
      = Cert.Spec.dx x0 x1 x2 x3 x4 x5 x6 i d := by
  pointwise [k0_pay1, k0_pay2, k0_pay9, k0_pay3, pay5_at, pay7_at, pay10_at, Cert.Spec.dx, Cert.Spec.div_8192]
end

variable (m : (ℓ : Loc nD τ sig) → Buf (Elt Ideal) ℓ) (ρ : Dev nD → PrngReg) (c : Dev nD)

/-- Each window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] := (by decide +kernel : ∀ t : Fin grid0.N, _)

/-! ## What the region finds -/

theorem V_v0 : V m c main_v0 = Cert.Spec.f0 (m ((c : Thread nD τ).loc main_arg0)) := by
  unfold Cert.Spec.f0; show StableHlo.after hostOps0 (fun b => m (c, b)) (Proc.devRef .tc main_v0) = _; after_results; try rfl
theorem V_v1 : V m c main_v1 = Cert.Spec.f1 (m ((c : Thread nD τ).loc main_arg1)) := by
  unfold Cert.Spec.f1; show StableHlo.after hostOps0 (fun b => m (c, b)) (Proc.devRef .tc main_v1) = _; after_results; try rfl
theorem V_v2 : V m c main_v2 = Cert.Spec.f1 (m ((c : Thread nD τ).loc main_arg2)) := by
  unfold Cert.Spec.f1; show StableHlo.after hostOps0 (fun b => m (c, b)) (Proc.devRef .tc main_v2) = _; after_results; try rfl
theorem V_v3 : V m c main_v3 = Cert.Spec.f3 (m ((c : Thread nD τ).loc main_arg3)) := by
  unfold Cert.Spec.f3; show StableHlo.after hostOps0 (fun b => m (c, b)) (Proc.devRef .tc main_v3) = _; after_results; try rfl
theorem V_v4 : V m c main_v4 = Cert.Spec.f5 (m ((c : Thread nD τ).loc main_arg5)) := by
  unfold Cert.Spec.f5; show StableHlo.after hostOps0 (fun b => m (c, b)) (Proc.devRef .tc main_v4) = _; after_results; try rfl
theorem V_v5 : V m c main_v5 = Cert.Spec.f6 (m ((c : Thread nD τ).loc main_arg6)) := by
  unfold Cert.Spec.f6; show StableHlo.after hostOps0 (fun b => m (c, b)) (Proc.devRef .tc main_v5) = _; after_results; try rfl

/-! ## The blocks -/

theorem ib0 : iblk m c 0 t0_0 = V m c main_v0 := by blk_ext! [iblk, idx t0_0]
theorem ib1 : iblk m c 1 t0_0 = V m c main_v1 := by blk_ext! [iblk, idx t0_0]
theorem ib2 : iblk m c 2 t0_0 = V m c main_v2 := by blk_ext! [iblk, idx t0_0]
theorem ib3 : iblk m c 3 t0_0 = V m c main_v3 := by blk_ext! [iblk, idx t0_0]
theorem ib4 : iblk m c 4 t0_0 = V m c main_arg4 := by blk_ext! [iblk, idx t0_0]
theorem ib5 : iblk m c 5 t0_0 = V m c main_v4 := by blk_ext! [iblk, idx t0_0]
theorem ib6 : iblk m c 6 t0_0 = V m c main_v5 := by blk_ext! [iblk, idx t0_0]

/-! ## The region's arrays after the run -/

theorem arr7 : (dats m 0 c).arrAt 7 (cfgs 0).N = fun i : S12288x8192.Idx =>
    Cert.Spec.dx (Cert.Spec.f0 (m ((c : Thread nD τ).loc main_arg0))) (Cert.Spec.f1 (m ((c : Thread nD τ).loc main_arg1))) (Cert.Spec.f1 (m ((c : Thread nD τ).loc main_arg2)))
      (Cert.Spec.f3 (m ((c : Thread nD τ).loc main_arg3))) (m ((c : Thread nD τ).loc main_arg4)) (Cert.Spec.f5 (m ((c : Thread nD τ).loc main_arg5))) (Cert.Spec.f6 (m ((c : Thread nD τ).loc main_arg6))) (i 0) (i 1) := by
  refine (dats m 0 c).arrAt_eq_of_after_last 7 t0_0 (by decide +kernel) _ fun j => ?_
  blk_simp
  rw [after0_7]
  frame_out
  rw [ib0, ib1, ib2, ib3, ib4, ib5, ib6, V_v0, V_v1, V_v2, V_v3, V_v4, V_v5, V_main_arg4]
  obtain ⟨i, d, rfl⟩ : ∃ (i : Fin 12288) (d : Fin 8192), j = ix2 i d := ⟨j 0, j 1, eq_ix2 j⟩
  exact pay1_at _ _ _ _ _ _ _ i d
theorem arr8 : (dats m 0 c).arrAt 8 (cfgs 0).N = fun i : S8192x10240.Idx =>
    Cert.Spec.dw (Cert.Spec.f0 (m ((c : Thread nD τ).loc main_arg0))) (Cert.Spec.f1 (m ((c : Thread nD τ).loc main_arg1))) (Cert.Spec.f1 (m ((c : Thread nD τ).loc main_arg2)))
      (Cert.Spec.f3 (m ((c : Thread nD τ).loc main_arg3))) (Cert.Spec.f6 (m ((c : Thread nD τ).loc main_arg6))) (i 0) (i 1) := by
  refine (dats m 0 c).arrAt_eq_of_after_last 8 t0_0 (by decide +kernel) _ fun j => ?_
  blk_simp
  rw [after0_8]
  frame_out
  rw [ib0, ib1, ib2, ib3, ib6, V_v0, V_v1, V_v2, V_v3, V_v5]
  exact pay6_at _ _ _ _ _ j
theorem arr9 : (dats m 0 c).arrAt 9 (cfgs 0).N = fun i : S1x8192.Idx =>
    Cert.Spec.dg (Cert.Spec.f0 (m ((c : Thread nD τ).loc main_arg0))) (Cert.Spec.f1 (m ((c : Thread nD τ).loc main_arg1))) (Cert.Spec.f1 (m ((c : Thread nD τ).loc main_arg2)))
      (m ((c : Thread nD τ).loc main_arg4)) (Cert.Spec.f5 (m ((c : Thread nD τ).loc main_arg5))) (Cert.Spec.f6 (m ((c : Thread nD τ).loc main_arg6))) (i 1) := by
  refine (dats m 0 c).arrAt_eq_of_after_last 9 t0_0 (by decide +kernel) _ fun j => ?_
  blk_simp
  rw [after0_9]
  frame_out
  rw [ib0, ib1, ib2, ib4, ib5, ib6, V_v0, V_v1, V_v2, V_v4, V_v5, V_main_arg4]
  exact pay8_at _ _ _ _ _ _ j

/-! ## The run -/

theorem tail7 : Pipeline.afterTail₀ cfgs (dats m) 0 (V0 m) [hostOps1] c main_v7 = Cert.Spec.resDx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h : Pipeline.withArrays (cfgs 0).spec c (V0 m c) (fun w => (dats m 0 c).arrAt w (cfgs 0).N) (Proc.devRef .tc main_v6_0) = _ :=
    (Pipeline.withArrays_arr spec0 launch0.win.arr_inj c _ _ 7).trans (arr7 m c)
  unfold Pipeline.afterTail₀ Cert.Spec.resDx
  rw [← h]
  generalize Pipeline.withArrays (cfgs 0).spec c (V0 m c) (fun w => (dats m 0 c).arrAt w (cfgs 0).N) = W
  show StableHlo.after hostOps1 W _ = _
  after_results; try rfl
theorem tail8 : Pipeline.afterTail₀ cfgs (dats m) 0 (V0 m) [hostOps1] c main_v8 = Cert.Spec.resDg (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  have h : Pipeline.withArrays (cfgs 0).spec c (V0 m c) (fun w => (dats m 0 c).arrAt w (cfgs 0).N) (Proc.devRef .tc main_v6_2) = _ :=
    (Pipeline.withArrays_arr spec0 launch0.win.arr_inj c _ _ 9).trans (arr9 m c)
  unfold Pipeline.afterTail₀ Cert.Spec.resDg
  rw [← h]
  generalize Pipeline.withArrays (cfgs 0).spec c (V0 m c) (fun w => (dats m 0 c).arrAt w (cfgs 0).N) = W
  show StableHlo.after hostOps1 W _ = _
  after_results; try rfl

/-- @main's results, and the argument arrays unchanged. -/
theorem run : θ_run defs (onTc (τ := τ) (main (F := Ideal))) ⟨m, fun _ => 0, ρ⟩ (fun r => ∀ c : Dev nD,
      r.2.mem ((c.tc : Thread nD τ).loc main_v7) = Cert.Spec.resDx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v6_1) = Cert.Spec.resDw (m ((c : Thread nD τ).loc main_arg0)) (m ((c : Thread nD τ).loc main_arg1)) (m ((c : Thread nD τ).loc main_arg2)) (m ((c : Thread nD τ).loc main_arg3)) (m ((c : Thread nD τ).loc main_arg6))
      ∧ r.2.mem ((c.tc : Thread nD τ).loc main_v8) = Cert.Spec.resDg (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m ρ
  · exact tail7 m c
  · exact arr8 m c
  · exact tail8 m c
  · exact W_main_arg0 m (dats m) c
  · exact W_main_arg1 m (dats m) c
  · exact W_main_arg2 m (dats m) c
  · exact W_main_arg3 m (dats m) c
  · exact W_main_arg5 m (dats m) c
  · exact W_main_arg6 m (dats m) c

end Cert.ReferenceIdeal.Value

end
-- ==== Proof.lean ====
/- The proof of the claim: the two programs and the reference run, leave their arguments as they found them,
   and the kernel's three results are the reference's over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Run
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.SL.Sem Cert.Kernel

/-- Over the extended reals the kernel's results are the reference's. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => Cert.Spec.resDx (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.resDw (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)),
    fun c => Cert.Spec.resDg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Value.run m g, (θ_run _ _ _).mono (fun r hr c => ?_) (Cert.ReferenceIdeal.Value.run m' g')⟩
  obtain ⟨e0, e1, e2, e3, e4, e5, e6⟩ := h c
  obtain ⟨r0, r1, r2, hargs⟩ := hr c
  rw [e0, e1, e2, e3, e4, e5, e6] at r0
  rw [e0, e1, e2, e3, e6] at r1
  rw [e0, e1, e2, e4, e5, e6] at r2
  exact ⟨r0, r1, r2, hargs⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial, algebraic⟩

end Cert.Proof

end
